-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x16 : Shape := ⟨3, ![8, 2048, 16]⟩
abbrev S8x2048x6 : Shape := ⟨3, ![8, 2048, 6]⟩
abbrev S8x2048x3 : Shape := ⟨3, ![8, 2048, 3]⟩
abbrev S6x6 : Shape := ⟨2, ![6, 6]⟩
abbrev S4096x40 : Shape := ⟨2, ![4096, 40]⟩
abbrev S16x1 : Shape := ⟨2, ![16, 1]⟩
abbrev S8x16x2048 : Shape := ⟨3, ![8, 16, 2048]⟩
abbrev S6x8x2048 : Shape := ⟨3, ![6, 8, 2048]⟩
abbrev S3x8x2048 : Shape := ⟨3, ![3, 8, 2048]⟩
abbrev S40x4096 : Shape := ⟨2, ![40, 4096]⟩
abbrev S1x16 : Shape := ⟨2, ![1, 16]⟩
abbrev S8x40x32768 : Shape := ⟨3, ![8, 40, 32768]⟩
abbrev S8x32768 : Shape := ⟨2, ![8, 32768]⟩
abbrev S1x40x32768 : Shape := ⟨3, ![1, 40, 32768]⟩
abbrev S40x2048 : Shape := ⟨2, ![40, 2048]⟩
abbrev S_ : Shape := ⟨0, ![]⟩
abbrev S3 : Shape := ⟨1, ![3]⟩
abbrev S1 : Shape := ⟨1, ![1]⟩
abbrev S40x6 : Shape := ⟨2, ![40, 6]⟩
abbrev S6x40 : Shape := ⟨2, ![6, 40]⟩
abbrev S40x3 : Shape := ⟨2, ![40, 3]⟩
abbrev S6x1x2048 : Shape := ⟨3, ![6, 1, 2048]⟩
abbrev S6x2048 : Shape := ⟨2, ![6, 2048]⟩
abbrev S3x1x2048 : Shape := ⟨3, ![3, 1, 2048]⟩
abbrev S3x2048 : Shape := ⟨2, ![3, 2048]⟩
abbrev S40x40 : Shape := ⟨2, ![40, 40]⟩
abbrev S40 : Shape := ⟨1, ![40]⟩
abbrev S40x1 : Shape := ⟨2, ![40, 1]⟩
abbrev S1x2048 : Shape := ⟨2, ![1, 2048]⟩
abbrev S1x16x2048 : Shape := ⟨3, ![1, 16, 2048]⟩
abbrev S16x2048 : Shape := ⟨2, ![16, 2048]⟩
abbrev S1x40x2048 : Shape := ⟨3, ![1, 40, 2048]⟩
abbrev S1x1 : Shape := ⟨2, ![1, 1]⟩
abbrev S1x1x2048 : Shape := ⟨3, ![1, 1, 2048]⟩
abbrev S8x32768x40 : Shape := ⟨3, ![8, 32768, 40]⟩

abbrev nBuf : Space → Nat
  | .hbm => 15
  | .vmem => 11
  | .smem => 0
  | _ => 0

abbrev bufTy : (tb : Table) → Fin (tcTables nBuf tb) → BufTy
  | .hbm, ⟨0, _⟩ => ⟨S8x2048x16, .f32⟩
  | .hbm, ⟨1, _⟩ => ⟨S8x2048x6, .f32⟩
  | .hbm, ⟨2, _⟩ => ⟨S8x2048x3, .f32⟩
  | .hbm, ⟨3, _⟩ => ⟨S6x6, .f32⟩
  | .hbm, ⟨4, _⟩ => ⟨S6x6, .f32⟩
  | .hbm, ⟨5, _⟩ => ⟨S4096x40, .f32⟩
  | .hbm, ⟨6, _⟩ => ⟨S16x1, .f32⟩
  | .hbm, ⟨7, _⟩ => ⟨S8x16x2048, .f32⟩
  | .hbm, ⟨8, _⟩ => ⟨S6x8x2048, .f32⟩
  | .hbm, ⟨9, _⟩ => ⟨S3x8x2048, .f32⟩
  | .hbm, ⟨10, _⟩ => ⟨S40x4096, .f32⟩
  | .hbm, ⟨11, _⟩ => ⟨S1x16, .f32⟩
  | .hbm, ⟨12, _⟩ => ⟨S8x40x32768, .f32⟩
  | .hbm, ⟨13, _⟩ => ⟨S8x32768, .i32⟩
  | .hbm, ⟨14, _⟩ => ⟨S8x32768x40, .f32⟩
  | .local _ .vmem, ⟨0, _⟩ => ⟨S1x40x32768, .f32⟩
  | .local _ .vmem, ⟨1, _⟩ => ⟨S1x40x32768, .f32⟩
  | .local _ .vmem, ⟨2, _⟩ => ⟨S8x32768, .i32⟩
  | .local _ .vmem, ⟨3, _⟩ => ⟨S8x16x2048, .f32⟩
  | .local _ .vmem, ⟨4, _⟩ => ⟨S6x8x2048, .f32⟩
  | .local _ .vmem, ⟨5, _⟩ => ⟨S3x8x2048, .f32⟩
  | .local _ .vmem, ⟨6, _⟩ => ⟨S6x6, .f32⟩
  | .local _ .vmem, ⟨7, _⟩ => ⟨S6x6, .f32⟩
  | .local _ .vmem, ⟨8, _⟩ => ⟨S40x2048, .f32⟩
  | .local _ .vmem, ⟨9, _⟩ => ⟨S1x16, .f32⟩
  | .local _ .vmem, ⟨10, _⟩ => ⟨S40x2048, .f32⟩
  | _, _ => ⟨S8x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c0 : Index := 0#32
  let arg0 : BitVec 32 := BitVec.ofNat 32 (i 0).val
  let v76 : Index := Scalar.indexCast arg0
  let c0_17 : Index := 0#32
  ![0, v76.toNat, 0]
def k0_off2 (i : grid0.Coords) : Fin 3 → Nat :=
  let c0_18 : Index := 0#32
  let arg0 : BitVec 32 := BitVec.ofNat 32 (i 0).val
  let v79 : Index := Scalar.indexCast arg0
  let c0_19 : Index := 0#32
  ![0, v79.toNat, 0]
def k0_off3 (i : grid0.Coords) : Fin 3 → Nat :=
  let arg0 : BitVec 32 := BitVec.ofNat 32 (i 0).val
  let v143 : Index := Scalar.indexCast arg0
  let c0_47 : Index := 0#32
  let c0_48 : Index := 0#32
  ![v143.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x40x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32768 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8x2048x16 : Shape := ⟨3, ![8, 2048, 16]⟩
abbrev S8x2048x6 : Shape := ⟨3, ![8, 2048, 6]⟩
abbrev S8x2048x3 : Shape := ⟨3, ![8, 2048, 3]⟩
abbrev S6x6 : Shape := ⟨2, ![6, 6]⟩
abbrev S4096x40 : Shape := ⟨2, ![4096, 40]⟩
abbrev S16x1 : Shape := ⟨2, ![16, 1]⟩
abbrev S2048 : Shape := ⟨1, ![2048]⟩
abbrev S1x2048 : Shape := ⟨2, ![1, 2048]⟩
abbrev S16x2048 : Shape := ⟨2, ![16, 2048]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x40 : Shape := ⟨2, ![32768, 40]⟩
abbrev S1x32768x40 : Shape := ⟨3, ![1, 32768, 40]⟩
abbrev S8x32768x40 : Shape := ⟨3, ![8, 32768, 40]⟩
abbrev S1x8x1x2048x1x6 : Shape := ⟨6, ![1, 8, 1, 2048, 1, 6]⟩
abbrev S1x8x16x2048x1x6 : Shape := ⟨6, ![1, 8, 16, 2048, 1, 6]⟩
abbrev S8x32768x6 : Shape := ⟨3, ![8, 32768, 6]⟩
abbrev S8x32768x6x1 : Shape := ⟨4, ![8, 32768, 6, 1]⟩
abbrev S1x1x6x6 : Shape := ⟨4, ![1, 1, 6, 6]⟩
abbrev S8x32768x6x6 : Shape := ⟨4, ![8, 32768, 6, 6]⟩
abbrev S8x32768x6x5 : Shape := ⟨4, ![8, 32768, 6, 5]⟩
abbrev S8x32768x36 : Shape := ⟨3, ![8, 32768, 36]⟩
abbrev S8x16x2048 : Shape := ⟨3, ![8, 16, 2048]⟩
abbrev S8x32768x1 : Shape := ⟨3, ![8, 32768, 1]⟩
abbrev S16 : Shape := ⟨1, ![16]⟩
abbrev S1x32768 : Shape := ⟨2, ![1, 32768]⟩
abbrev S8x32768 : Shape := ⟨2, ![8, 32768]⟩
abbrev S1x32768x1 : Shape := ⟨3, ![1, 32768, 1]⟩
abbrev S8x32768x37 : Shape := ⟨3, ![8, 32768, 37]⟩
abbrev S1x8x1x2048x1x3 : Shape := ⟨6, ![1, 8, 1, 2048, 1, 3]⟩
abbrev S1x8x16x2048x1x3 : Shape := ⟨6, ![1, 8, 16, 2048, 1, 3]⟩
abbrev S8x32768x3 : Shape := ⟨3, ![8, 32768, 3]⟩

abbrev nBuf : Space → Nat
  | .hbm => 91
  | .vmem => 0
  | .smem => 0
  | _ => 0

abbrev bufTy : (tb : Table) → Fin (tcTables nBuf tb) → BufTy
  | .hbm, ⟨0, _⟩ => ⟨S8x2048x16, .f32⟩
  | .hbm, ⟨1, _⟩ => ⟨S8x2048x6, .f32⟩
  | .hbm, ⟨2, _⟩ => ⟨S8x2048x3, .f32⟩
  | .hbm, ⟨3, _⟩ => ⟨S6x6, .f32⟩
  | .hbm, ⟨4, _⟩ => ⟨S6x6, .f32⟩
  | .hbm, ⟨5, _⟩ => ⟨S4096x40, .f32⟩
  | .hbm, ⟨6, _⟩ => ⟨S16x1, .f32⟩
  | .hbm, ⟨7, _⟩ => ⟨S2048, .i32⟩
  | .hbm, ⟨8, _⟩ => ⟨S1x2048, .i32⟩
  | .hbm, ⟨9, _⟩ => ⟨S16x2048, .i32⟩
  | .hbm, ⟨10, _⟩ => ⟨S32768, .i32⟩
  | .hbm, ⟨11, _⟩ => ⟨S_, .i32⟩
  | .hbm, ⟨12, _⟩ => ⟨S32768, .i32⟩
  | .hbm, ⟨13, _⟩ => ⟨S32768, .i1⟩
  | .hbm, ⟨14, _⟩ => ⟨S_, .i32⟩
  | .hbm, ⟨15, _⟩ => ⟨S32768, .i32⟩
  | .hbm, ⟨16, _⟩ => ⟨S32768, .i32⟩
  | .hbm, ⟨17, _⟩ => ⟨S32768, .i32⟩
  | .hbm, ⟨18, _⟩ => ⟨S32768x1, .i32⟩
  | .hbm, ⟨19, _⟩ => ⟨S1, .i32⟩
  | .hbm, ⟨20, _⟩ => ⟨S_, .i32⟩
  | .hbm, ⟨21, _⟩ => ⟨S32768x1, .i32⟩
  | .hbm, ⟨22, _⟩ => ⟨S32768x1, .i1⟩
  | .hbm, ⟨23, _⟩ => ⟨S1x1, .i32⟩
  | .hbm, ⟨24, _⟩ => ⟨S32768x1, .i32⟩
  | .hbm, ⟨25, _⟩ => ⟨S32768x1, .i1⟩
  | .hbm, ⟨26, _⟩ => ⟨S32768x1, .i1⟩
  | .hbm, ⟨27, _⟩ => ⟨S_, .i1⟩
  | .hbm, ⟨28, _⟩ => ⟨S32768, .i1⟩
  | .hbm, ⟨29, _⟩ => ⟨S32768x40, .f32⟩
  | .hbm, ⟨30, _⟩ => ⟨S32768x40, .i1⟩
  | .hbm, ⟨31, _⟩ => ⟨S_, .f32⟩
  | .hbm, ⟨32, _⟩ => ⟨S32768x40, .f32⟩
  | .hbm, ⟨33, _⟩ => ⟨S32768x40, .f32⟩
  | .hbm, ⟨34, _⟩ => ⟨S1x32768x40, .f32⟩
  | .hbm, ⟨35, _⟩ => ⟨S8x32768x40, .f32⟩
  | .hbm, ⟨36, _⟩ => ⟨S1x8x1x2048x1x6, .f32⟩
  | .hbm, ⟨37, _⟩ => ⟨S1x8x16x2048x1x6, .f32⟩
  | .hbm, ⟨38, _⟩ => ⟨S8x32768x6, .f32⟩
  | .hbm, ⟨39, _⟩ => ⟨S8x32768x6x1, .f32⟩
  | .hbm, ⟨40, _⟩ => ⟨S1x1x6x6, .f32⟩
  | .hbm, ⟨41, _⟩ => ⟨S8x32768x6x6, .f32⟩
  | .hbm, ⟨42, _⟩ => ⟨S8x32768x6x6, .f32⟩
  | .hbm, ⟨43, _⟩ => ⟨S8x32768x6x6, .f32⟩
  | .hbm, ⟨44, _⟩ => ⟨S1x1x6x6, .f32⟩
  | .hbm, ⟨45, _⟩ => ⟨S8x32768x6x6, .f32⟩
  | .hbm, ⟨46, _⟩ => ⟨S8x32768x6x6, .f32⟩
  | .hbm, ⟨47, _⟩ => ⟨S8x32768x6x1, .f32⟩
  | .hbm, ⟨48, _⟩ => ⟨S8x32768x6x5, .f32⟩
  | .hbm, ⟨49, _⟩ => ⟨S8x32768x6x5, .f32⟩
  | .hbm, ⟨50, _⟩ => ⟨S8x32768x6x6, .f32⟩
  | .hbm, ⟨51, _⟩ => ⟨S8x32768x36, .f32⟩
  | .hbm, ⟨52, _⟩ => ⟨S8x16x2048, .f32⟩
  | .hbm, ⟨53, _⟩ => ⟨S8x32768x1, .f32⟩
  | .hbm, ⟨54, _⟩ => ⟨S16, .i32⟩
  | .hbm, ⟨55, _⟩ => ⟨S16x2048, .i32⟩
  | .hbm, ⟨56, _⟩ => ⟨S32768, .i32⟩
  | .hbm, ⟨57, _⟩ => ⟨S1x32768, .i32⟩
  | .hbm, ⟨58, _⟩ => ⟨S8x32768, .i32⟩
  | .hbm, ⟨59, _⟩ => ⟨S_, .i32⟩
  | .hbm, ⟨60, _⟩ => ⟨S32768, .i32⟩
  | .hbm, ⟨61, _⟩ => ⟨S32768, .i1⟩
  | .hbm, ⟨62, _⟩ => ⟨S_, .i32⟩
  | .hbm, ⟨63, _⟩ => ⟨S32768, .i32⟩
  | .hbm, ⟨64, _⟩ => ⟨S32768, .i32⟩
  | .hbm, ⟨65, _⟩ => ⟨S32768, .i32⟩
  | .hbm, ⟨66, _⟩ => ⟨S32768x1, .i32⟩
  | .hbm, ⟨67, _⟩ => ⟨S1, .i32⟩
  | .hbm, ⟨68, _⟩ => ⟨S_, .i32⟩
  | .hbm, ⟨69, _⟩ => ⟨S32768x1, .i32⟩
  | .hbm, ⟨70, _⟩ => ⟨S32768x1, .i1⟩
  | .hbm, ⟨71, _⟩ => ⟨S1x1, .i32⟩
  | .hbm, ⟨72, _⟩ => ⟨S32768x1, .i32⟩
  | .hbm, ⟨73, _⟩ => ⟨S32768x1, .i1⟩
  | .hbm, ⟨74, _⟩ => ⟨S32768x1, .i1⟩
  | .hbm, ⟨75, _⟩ => ⟨S_, .i1⟩
  | .hbm, ⟨76, _⟩ => ⟨S32768, .i1⟩
  | .hbm, ⟨77, _⟩ => ⟨S32768x1, .f32⟩
  | .hbm, ⟨78, _⟩ => ⟨S32768x1, .i1⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S1x32768x1, .f32⟩
  | .hbm, ⟨83, _⟩ => ⟨S8x32768x1, .f32⟩
  | .hbm, ⟨84, _⟩ => ⟨S8x32768x1, .f32⟩
  | .hbm, ⟨85, _⟩ => ⟨S8x32768x37, .f32⟩
  | .hbm, ⟨86, _⟩ => ⟨S1x8x1x2048x1x3, .f32⟩
  | .hbm, ⟨87, _⟩ => ⟨S1x8x16x2048x1x3, .f32⟩
  | .hbm, ⟨88, _⟩ => ⟨S8x32768x3, .f32⟩
  | .hbm, ⟨89, _⟩ => ⟨S8x32768x40, .f32⟩
  | .hbm, ⟨90, _⟩ => ⟨S8x32768x40, .f32⟩
  | _, _ => ⟨S8x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩

abbrev nD : Nat := 1
abbrev τ : Topo := Topo.v7x

variable {F : FTy → Type} [FloatOps F]
-- ==== Proof.Setup.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.MixedBatch
public import Idealize.ShloMosaic.Lib.Memref
public import Idealize.ShloMosaic.Lib.Pipeline.FrameSuffix

/-! The names the proof of the kernel's run uses: the buffers the body addresses, its own semaphore cells, and the
resources it is handed at the launch. -/

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

/-- The working buffers, in the body's order. -/
abbrev sInp : Memref sig .tc .vmem S8x16x2048 .f32 := Memref.whole cc0_scratch0
abbrev sDat : Memref sig .tc .vmem S6x8x2048 .f32 := Memref.whole cc0_scratch1
abbrev sCmx : Memref sig .tc .vmem S3x8x2048 .f32 := Memref.whole cc0_scratch2
abbrev sTw : Memref sig .tc .vmem S6x6 .f32 := Memref.whole cc0_scratch3
abbrev sTb : Memref sig .tc .vmem S6x6 .f32 := Memref.whole cc0_scratch4
abbrev sLoc : Memref sig .tc .vmem S40x2048 .f32 := Memref.whole cc0_scratch5
abbrev sSpc : Memref sig .tc .vmem S1x16 .f32 := Memref.whole cc0_scratch6
abbrev sBase : Memref sig .tc .vmem S40x2048 .f32 := Memref.whole cc0_scratch7
/-- The arrays the copies read. -/
abbrev hInp : Memref sig .tc .hbm S8x16x2048 .f32 := Memref.whole main_v0
abbrev hDat : Memref sig .tc .hbm S6x8x2048 .f32 := Memref.whole main_v1
abbrev hCmx : Memref sig .tc .hbm S3x8x2048 .f32 := Memref.whole main_v2
abbrev hTw : Memref sig .tc .hbm S6x6 .f32 := Memref.whole main_arg3
abbrev hTb : Memref sig .tc .hbm S6x6 .f32 := Memref.whole main_arg4
abbrev hLoc : Memref sig .tc .hbm S40x4096 .f32 := Memref.whole main_v3
abbrev hSpc : Memref sig .tc .hbm S1x16 .f32 := Memref.whole main_v4
/-- The leading columns of the local table, which is the part that is copied. -/
abbrev hLocS : Memref sig .tc .hbm S40x2048 .f32 :=
  hLoc.slice (Rect.unit (s := S40x4096) ![0, 0] S40x2048.size inb_S40x4096_S40x2048_0_0) (fun _ => rfl)

/-- The contents type of a memref's buffer on core `c`. -/
abbrev BufOf (c : Dev nD) {sp : Space} {S : Shape} {e : EltTy} (M : Memref sig .tc sp S e) : Type := Buf (Elt F) (M.view.loc (c : Thread nD τ))
/-- The whole buffer of a memref, held at the contents `f`. -/
abbrev held (c : Dev nD) {sp : Space} {S : Shape} {e : EltTy} (M : Memref sig .tc sp S e) (f : BufOf (F := F) c M) : sProp 𝕄 :=
  M.view.loc (c : Thread nD τ) ↦{fullShare} f
/-- The elements of a memref's buffer under its view, held at the contents `f`. -/
abbrev heldOn (c : Dev nD) {sp : Space} {S : Shape} {e : EltTy} (M : Memref sig .tc sp S e) (f : BufOf (F := F) c M) : sProp 𝕄 :=
  M.view.loc (c : Thread nD τ) ↦[M.view.set]{fullShare} f

/-- The body's own semaphore cells: the shared one and the three single ones. -/
abbrev osem0 : Fin 4 → SemLoc sig := fun j => (![SemLoc.dma 3, SemLoc.dma 4, SemLoc.dma 5, SemLoc.dma 6] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0
          ∗ semVal ((c : Thread nD τ), SemLoc.dma 5) 0 ∗ semVal ((c : Thread nD τ), SemLoc.dma 6) 0) := by
  rw [Pipeline.ownSems0_eq_of_list c osem0 [0, 1, 2, 3] (by decide) (by decide)]; rfl

/-- The arrays the body's copies read. -/
def H0 : Finset (Ref sig .tc) := {main_v0, main_v1, main_v2, main_arg3, main_arg4, main_v3, main_v4}
theorem H0_sub : H0 ⊆ Pipeline.restRefs sig spec0 := by decide

/-- The four copies on the shared cell: the amounts, in the order they are issued. -/
abbrev amts : Fin 4 → ℕ := ![32768, 12288, 6144, 10240]

/-- Contents of a destination after a copy has landed over `fb`. -/
abbrev landed (c : Dev nD) {S : Shape} {e : EltTy} (dst : Memref sig .tc .vmem S e) (src : Memref sig .tc .hbm S e)
    (fa : BufOf (F := F) c src) (fb : BufOf (F := F) c dst) : BufOf (F := F) c dst :=
  View.write (Elt F) dst.view fb (ReadAs.same.apply (src.view.read (Elt F) fa)) Finset.univ

/-- What the four copies on the shared cell hand back: each destination landed, each source returned. -/
def deliv (c : Dev nD) (f0 : BufOf (F := F) c hInp) (f1 : BufOf (F := F) c hDat) (f2 : BufOf (F := F) c hCmx) (f5 : BufOf (F := F) c hLoc)
    (d0 : BufOf (F := F) c sInp) (d1 : BufOf (F := F) c sDat) (d2 : BufOf (F := F) c sCmx) (d5 : BufOf (F := F) c sLoc) : Fin 4 → sProp 𝕄
  | 0 => iprop(held c sInp (landed c sInp hInp f0 d0) ∗ heldOn c hInp f0)
  | 1 => iprop(held c sDat (landed c sDat hDat f1 d1) ∗ heldOn c hDat f1)
  | 2 => iprop(held c sCmx (landed c sCmx hCmx f2 d2) ∗ heldOn c hCmx f2)
  | 3 => iprop(held c sLoc (landed c sLoc hLocS f5 d5) ∗ heldOn c hLocS f5)

instance deliv_storable (c : Dev nD) (f0 : BufOf (F := F) c hInp) (f1 : BufOf (F := F) c hDat) (f2 : BufOf (F := F) c hCmx) (f5 : BufOf (F := F) c hLoc)
    (d0 : BufOf (F := F) c sInp) (d1 : BufOf (F := F) c sDat) (d2 : BufOf (F := F) c sCmx) (d5 : BufOf (F := F) c sLoc) (t : Fin 4) :
    Storable (upEmb : UEmb _ 𝕄) (deliv c f0 f1 f2 f5 d0 d1 d2 d5 t) := by
  fin_cases t <;> simp only [deliv] <;> infer_instance

end Cert.KernelIdeal.Hand

end
-- ==== Proof.Gather.lean ====
module

public import proofs.«01_k».proof.Proof.Setup

/-! The first part of the body: at the first grid point it copies the seven input arrays into the working buffers and
stores the index result; at every other point it does nothing to the memory. -/

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

/-- The first part of the body at the program's own buffers. -/
abbrev part1At (i : grid0.Coords) (a8 : Memref sig .tc .vmem S1x40x32768 .f32) (h8 : a8.IsWhole)
    (a9 : Memref sig .tc .vmem S8x32768 .i32) (h9 : a9.IsWhole) :=
  k0_part1 (F := F) i hInp (Memref.isWhole_whole _) hDat (Memref.isWhole_whole _) hCmx (Memref.isWhole_whole _)
    hTw (Memref.isWhole_whole _) hTb (Memref.isWhole_whole _) hLoc (Memref.isWhole_whole _) hSpc (Memref.isWhole_whole _)
    a8 h8 a9 h9 sInp (Memref.isWhole_whole _) sDat (Memref.isWhole_whole _) sCmx (Memref.isWhole_whole _)
    sTw (Memref.isWhole_whole _) sTb (Memref.isWhole_whole _) sLoc (Memref.isWhole_whole _) sSpc (Memref.isWhole_whole _)
    sBase (Memref.isWhole_whole _) cc0_scratch8 cc0_scratch9

set_option maxHeartbeats 4000000 in
/-- At the first grid point the seven copies land, the index result is stored, and every cell is back at zero. -/
theorem part1_first (c : Dev nD) (i : grid0.Coords) (hi : k0_cond1 i = 1#1) (a8 : Memref sig .tc .vmem S1x40x32768 .f32) (h8 : a8.IsWhole)
    (a9 : Memref sig .tc .vmem S8x32768 .i32) (h9 : a9.IsWhole)
    (f0 : BufOf (F := F) c hInp) (f1 : BufOf (F := F) c hDat) (f2 : BufOf (F := F) c hCmx) (f3 : BufOf (F := F) c hTw)
    (f4 : BufOf (F := F) c hTb) (f5 : BufOf (F := F) c hLoc) (f6 : BufOf (F := F) c hSpc)
    (d0 : BufOf (F := F) c sInp) (d1 : BufOf (F := F) c sDat) (d2 : BufOf (F := F) c sCmx) (d3 : BufOf (F := F) c sTw)
    (d4 : BufOf (F := F) c sTb) (d5 : BufOf (F := F) c sLoc) (d6 : BufOf (F := F) c sSpc) (d9 : BufOf (F := F) c a9)
    (W : Waits sig Unit) (K : _ → sProp 𝕄) :
    iprop(held c sInp d0 ∗ held c sDat d1 ∗ held c sCmx d2 ∗ held c sTw d3 ∗ held c sTb d4 ∗ held c sLoc d5 ∗ held c sSpc d6
        ∗ heldOn c a9 d9
        ∗ semVal ((c : Thread nD τ), SemLoc.dma 3) 0 ∗ semVal ((c : Thread nD τ), SemLoc.dma 4) 0
        ∗ semVal ((c : Thread nD τ), SemLoc.dma 5) 0 ∗ semVal ((c : Thread nD τ), SemLoc.dma 6) 0
        ∗ held c hInp f0 ∗ held c hDat f1 ∗ held c hCmx f2 ∗ held c hTw f3 ∗ held c hTb f4 ∗ held c hLoc f5 ∗ held c hSpc f6
        ∗ owes (c : Thread nD τ) 0 W
        ∗ (iprop(held c sInp f0 ∗ held c sDat f1 ∗ held c sCmx f2 ∗ held c sTw f3 ∗ held c sTb f4
              ∗ held c sLoc (hLocS.view.read (Elt F) f5) ∗ held c sSpc f6
              ∗ (∃ f, heldOn c a9 (a9.view.writes (Elt F) f [⟨Rect.unit (s := S8x32768) ![0, 0] S8x32768.size inb_S8x32768_S8x32768_0_0, k0_pay5⟩]))
              ∗ semVal ((c : Thread nD τ), SemLoc.dma 3) 0 ∗ semVal ((c : Thread nD τ), SemLoc.dma 4) 0
              ∗ semVal ((c : Thread nD τ), SemLoc.dma 5) 0 ∗ semVal ((c : Thread nD τ), SemLoc.dma 6) 0
              ∗ held c hInp f0 ∗ held c hDat f1 ∗ held c hCmx f2 ∗ held c hTw f3 ∗ held c hTb f4 ∗ held c hLoc f5 ∗ held c hSpc f6
              ∗ (∃ W', owes (c : Thread nD τ) 0 W'))
            -∗ K ⟨BitVec.ofNat 32 (i 0).val, k0_pay6 (F := F), iota .tc S6x40 32 [0] iota_S6x40_d0_w32, iota .tc S6x40 32 [1] iota_S6x40_d1_w32, k0_pay7, 36#32⟩))
      ⊢ wp frame (wpE (defs₀ (F := F)) Variants.none (c : Thread nD τ) none) Set.univ (part1At (F := F) i a8 h8 a9 h9) K := by
  unfold part1At
  rw [k0_part1_eq_skeleton]
  unfold k0_part1_skel
  iintro ⟨HS0, HS1, HS2, HS3, HS4, HS5, HS6, H9, Hq3, Hq4, Hq5, Hq6, HH0, HH1, HH2, HH3, HH4, HH5, HH6, HW, Hk⟩
  imod (Transfers.mixedBatch_alloc' (Lvl := ℕ) (countersEmb (U := Pipeline.UD sig nD τ)) (c : Thread nD τ) () amts
    (deliv c f0 f1 f2 f5 d0 d1 d2 d5) (sm := SemLoc.dma 3) (E := Set.univ)) $$ Hq3 with HB
  unfold deliv
  sl_exec
  have e0 : landed c sInp hInp f0 d0 = f0 := View.write_whole_univ _ _ _
  have e1 : landed c sDat hDat f1 d1 = f1 := View.write_whole_univ _ _ _
  have e2 : landed c sCmx hCmx f2 d2 = f2 := View.write_whole_univ _ _ _
  have e5 : landed c sLoc hLocS f5 d5 = hLocS.view.read (Elt F) f5 := View.write_whole_univ _ _ _
  have e3 : ∀ w, View.write (Elt F) sTw.view d3 w Finset.univ = w := fun w => View.write_whole_univ _ _ _
  have e4 : ∀ w, View.write (Elt F) sTb.view d4 w Finset.univ = w := fun w => View.write_whole_univ _ _ _
  have e6 : ∀ w, View.write (Elt F) sSpc.view d6 w Finset.univ = w := fun w => View.write_whole_univ _ _ _
  rw [e0, e1, e2, e5, e3, e4, e6]
  sl_step
  unfold part1_first.sl.v40 part1_first.sl.v41
  iapply Hk
  isplitl [HB_dst0]; · iexact HB_dst0
  isplitl [HB_dst1]; · iexact HB_dst1
  isplitl [HB_dst2]; · iexact HB_dst2
  isplitl [HS3]; · iexact HS3
  isplitl [HS4]; · iexact HS4
  isplitl [HB_dst3]; · iexact HB_dst3
  isplitl [HS6]; · iexact HS6
  isplitl [H9]; · iexists _; iexact H9
  isplitl [HB]; · iexact HB
  isplitl [Hq4]; · iexact Hq4
  isplitl [Hq5]; · iexact Hq5
  isplitl [Hq6]; · iexact Hq6
  isplitl [HH0]; · iexact HH0
  isplitl [HH1]; · iexact HH1
  isplitl [HH2]; · iexact HH2
  isplitl [HH3]; · iexact HH3
  isplitl [HH4]; · iexact HH4
  isplitl [HH5]; · iexact HH5
  isplitl [HH6]; · iexact HH6
  iexists _; iexact HW

/-- At every other grid point the first part touches no memory and returns the same values. -/
theorem part1_other (c : Dev nD) (i : grid0.Coords) (hi : ¬ k0_cond1 i = 1#1) (a8 : Memref sig .tc .vmem S1x40x32768 .f32) (h8 : a8.IsWhole)
    (a9 : Memref sig .tc .vmem S8x32768 .i32) (h9 : a9.IsWhole) (K : _ → sProp 𝕄) :
    K ⟨BitVec.ofNat 32 (i 0).val, k0_pay6 (F := F), iota .tc S6x40 32 [0] iota_S6x40_d0_w32, iota .tc S6x40 32 [1] iota_S6x40_d1_w32, k0_pay7, 36#32⟩
      ⊢ wp frame (wpE (defs₀ (F := F)) Variants.none (c : Thread nD τ) none) Set.univ (part1At (F := F) i a8 h8 a9 h9) K := by
  unfold part1At
  rw [k0_part1_eq_skeleton]
  unfold k0_part1_skel
  iintro Hk
  sl_exec
  sl_step
  unfold part1_other.sl.v40 part1_other.sl.v41
  iexact Hk

end Cert.KernelIdeal.Hand

end
-- ==== Proof.Rest.lean ====
module

public import proofs.«01_k».proof.Proof.Gather

/-! The rest of the body, run once at any contents of the working buffers: it fills the output block in thirty-two stores. -/

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

/-- The whole body at the program's own buffers. -/
abbrev bodyAt (i : grid0.Coords) (a8 : Memref sig .tc .vmem S1x40x32768 .f32) (h8 : a8.IsWhole)
    (a9 : Memref sig .tc .vmem S8x32768 .i32) (h9 : a9.IsWhole) :=
  cc0__body (F := F) i hInp (Memref.isWhole_whole _) hDat (Memref.isWhole_whole _) hCmx (Memref.isWhole_whole _)
    hTw (Memref.isWhole_whole _) hTb (Memref.isWhole_whole _) hLoc (Memref.isWhole_whole _) hSpc (Memref.isWhole_whole _)
    a8 h8 a9 h9 sInp (Memref.isWhole_whole _) sDat (Memref.isWhole_whole _) sCmx (Memref.isWhole_whole _)
    sTw (Memref.isWhole_whole _) sTb (Memref.isWhole_whole _) sLoc (Memref.isWhole_whole _) sSpc (Memref.isWhole_whole _)
    sBase (Memref.isWhole_whole _) cc0_scratch8 cc0_scratch9

set_option maxHeartbeats 40000000 in
/-- The body after its first part: whatever the first part hands on (`R`) beside the seven working buffers at `g0 … g6`,
the run ends with the output block written by the listed stores. -/
def restRun (c : Dev nD) (i : grid0.Coords)
    (g0 : BufOf (F := F) c sInp) (g1 : BufOf (F := F) c sDat) (g2 : BufOf (F := F) c sCmx) (g3 : BufOf (F := F) c sTw)
    (g4 : BufOf (F := F) c sTb) (g5 : BufOf (F := F) c sLoc) (g6 : BufOf (F := F) c sSpc) :
    { L : List (View.Piece (Elt F) S1x40x32768 .f32) // ∀
      (a8 : Memref sig .tc .vmem S1x40x32768 .f32) (h8 : a8.IsWhole) (a9 : Memref sig .tc .vmem S8x32768 .i32) (h9 : a9.IsWhole)
      (f8 : BufOf (F := F) c a8) (b0 : BufOf (F := F) c sBase) (P R : sProp 𝕄)
      (_ : ∀ K : _ → sProp 𝕄, iprop(P ∗ (iprop(held c sInp g0 ∗ held c sDat g1 ∗ held c sCmx g2 ∗ held c sTw g3 ∗ held c sTb g4
              ∗ held c sLoc g5 ∗ held c sSpc g6 ∗ R)
            -∗ K ⟨BitVec.ofNat 32 (i 0).val, k0_pay6 (F := F), iota .tc S6x40 32 [0] iota_S6x40_d0_w32, iota .tc S6x40 32 [1] iota_S6x40_d1_w32, k0_pay7, 36#32⟩))
          ⊢ wp frame (wpE (defs₀ (F := F)) Variants.none (c : Thread nD τ) none) Set.univ (part1At (F := F) i a8 h8 a9 h9) K)
      (K : PUnit → sProp 𝕄),
      iprop(P ∗ heldOn c a8 f8 ∗ held c sBase b0
        ∗ (iprop(held c sInp g0 ∗ held c sDat g1 ∗ held c sCmx g2 ∗ held c sTw g3 ∗ held c sTb g4 ∗ held c sLoc g5 ∗ held c sSpc g6
              ∗ R ∗ (∃ f, heldOn c a8 (a8.view.writes (Elt F) f L)) ∗ (∃ f, held c sBase f)) -∗ K ⟨⟩))
        ⊢ wp frame (wpE (defs₀ (F := F)) Variants.none (c : Thread nD τ) none) Set.univ (bodyAt (F := F) i a8 h8 a9 h9) K } := by
  refine ⟨?_, fun a8 h8 a9 h9 f8 b0 P R hP K => ?run⟩
  case run =>
    unfold bodyAt
    rw [cc0__body_eq_skeleton]
    unfold cc0__body_skel
    rw [wp_bind]
    iintro ⟨HP, H8, HB, Hk⟩
    iapply (hP _)
    isplitl [HP]; · iexact HP
    iintro ⟨HS0, HS1, HS2, HS3, HS4, HS5, HS6, HR⟩
    sl_exec
    sl_step
    iapply Hk
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HR]; · iexact HR
    isplitl [H8]; · iexists _; iexact H8
    iexists _; iexact HB

end Cert.KernelIdeal.Hand

end
-- ==== Proof.Run.lean ====
module

public import proofs.«01_k».proof.Proof.Rest
public import Idealize.ShloMosaic.Lib.Pipeline.TableIdle

/-! The run of the whole program: what each window holds after each grid point, the body at every point, and the
arrays at the end. -/

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What is handed to the body and what it keeps -/

/-- The contents of the seven working buffers once the copies have landed. -/
abbrev G0 (c : Dev nD) : BufOf (F := F) c sInp := V m c main_v0
abbrev G1 (c : Dev nD) : BufOf (F := F) c sDat := V m c main_v1
abbrev G2 (c : Dev nD) : BufOf (F := F) c sCmx := V m c main_v2
abbrev G3 (c : Dev nD) : BufOf (F := F) c sTw := V m c main_arg3
abbrev G4 (c : Dev nD) : BufOf (F := F) c sTb := V m c main_arg4
abbrev G5 (c : Dev nD) : BufOf (F := F) c sLoc := hLocS.view.read (Elt F) (V m c main_v3)
abbrev G6 (c : Dev nD) : BufOf (F := F) c sSpc := V m c main_v4

theorem hbmPts0_eq (c : Dev nD) :
    (bigSep H0 (fun b => ((c : Thread nD τ).loc b) ↦{fullShare} V m c b) : sProp 𝕄)
      = iprop(held c hInp (V m c main_v0) ∗ held c hDat (V m c main_v1) ∗ held c hCmx (V m c main_v2)
          ∗ held c hTw (V m c main_arg3) ∗ held c hTb (V m c main_arg4) ∗ held c hLoc (V m c main_v3) ∗ held c hSpc (V m c main_v4)) := by
  rw [BI.bigSep_eq_bigSepL_of_eq [main_v0, main_v1, main_v2, main_arg3, main_arg4, main_v3, main_v4] (by decide) (by decide)]; rfl

/-- The body's cells at zero, the arrays it reads. -/
abbrev cells (c : Dev nD) : sProp 𝕄 :=
  iprop(semVal ((c : Thread nD τ), SemLoc.dma 3) 0 ∗ semVal ((c : Thread nD τ), SemLoc.dma 4) 0
    ∗ semVal ((c : Thread nD τ), SemLoc.dma 5) 0 ∗ semVal ((c : Thread nD τ), SemLoc.dma 6) 0)
abbrev srcs (c : Dev nD) : sProp 𝕄 :=
  iprop(held c hInp (V m c main_v0) ∗ held c hDat (V m c main_v1) ∗ held c hCmx (V m c main_v2)
    ∗ held c hTw (V m c main_arg3) ∗ held c hTb (V m c main_arg4) ∗ held c hLoc (V m c main_v3) ∗ held c hSpc (V m c main_v4))

theorem PhiD0_eq (c : Dev nD) :
    (Pipeline.ΦD osem0 spec0 H0 (V m) c : sProp 𝕄)
      = iprop(iprop((∃ f, held c sInp f) ∗ (∃ f, held c sDat f) ∗ (∃ f, held c sCmx f) ∗ (∃ f, held c sTw f) ∗ (∃ f, held c sTb f)
              ∗ (∃ f, held c sLoc f) ∗ (∃ f, held c sSpc f) ∗ (∃ f, held c sBase f))
          ∗ (∃ r, prngReg c r) ∗ cells c ∗ srcs m c) := by
  rw [Pipeline.ΦD_eq, scopedRest0_eq, ownSems00_eq, hbmPts0_eq]

/-- After the first point: the working buffers at the landed contents. -/
def mid (c : Dev nD) : sProp 𝕄 :=
  iprop(iprop(held c sInp (G0 m c) ∗ held c sDat (G1 m c) ∗ held c sCmx (G2 m c) ∗ held c sTw (G3 m c) ∗ held c sTb (G4 m c)
        ∗ held c sLoc (G5 m c) ∗ held c sSpc (G6 m c) ∗ (∃ f, held c sBase f))
    ∗ (∃ r, prngReg c r) ∗ cells c ∗ srcs m c)

/-- The invariant before point `n`. -/
def PhiC (c : Dev nD) (n : Nat) : sProp 𝕄 :=
  if n = 0 then Pipeline.ΦD osem0 spec0 H0 (V m) c else mid m c

theorem PhiC_zero (c : Dev nD) : PhiC m c 0 = Pipeline.ΦD osem0 spec0 H0 (V m) c := if_pos rfl
theorem PhiC_pos (c : Dev nD) (n : Nat) (h : n ≠ 0) : PhiC m c n = mid m c := if_neg h

/-- Forgetting the contents leads back to what was handed over at the launch. -/
theorem mid_forget (c : Dev nD) : mid m c ⊢ Pipeline.ΦD osem0 spec0 H0 (V m) c := by
  rw [PhiD0_eq]
  unfold mid
  iintro ⟨⟨H0, H1, H2, H3, H4, H5, H6, HB⟩, Hr, Hc, Hs⟩
  isplitl [H0 H1 H2 H3 H4 H5 H6 HB]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexact HB
  isplitl [Hr]; · iexact Hr
  isplitl [Hc]; · iexact Hc
  iexact Hs

/-! ## The windows -/

abbrev VO : View sig .tc .vmem S1x40x32768 .f32 := (Memref.whole cc0_stg0_0 : Memref sig .tc .vmem S1x40x32768 .f32).view
abbrev VI : View sig .tc .vmem S8x32768 .i32 := (Memref.whole cc0_stg1_0 : Memref sig .tc .vmem S8x32768 .i32).view
abbrev ms0 (t : Fin cfg0.N) : Memref sig .tc .vmem S1x40x32768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x32768 .i32 := win0_1.stage (cfg0.slots t 1)
abbrev hs1 (t : Fin cfg0.N) : (ms1 t).IsWhole := hstage0_1 ((cfg0.slots t 1).cast nbuf0_1)

/-- The stores into the output block at grid point `i`. -/
def pieces (c : Dev nD) (i : grid0.Coords) : List (View.Piece (Elt F) S1x40x32768 .f32) :=
  (restRun c i (G0 m c) (G1 m c) (G2 m c) (G3 m c) (G4 m c) (G5 m c) (G6 m c)).1

theorem cover_pieces (c : Dev nD) (i : grid0.Coords) (y : S1x40x32768.Idx) : ∃ pc ∈ pieces m c i, y ∈ pc.1.set :=
  View.cover_of_tiledBy (pieces m c i) ![1, 1, 2048] (by sl_kernel_rfl) y

/-- The output block at grid point `t`. -/
def outBlk (c : Dev nD) (t : Fin cfg0.N) : Vec F S1x40x32768 .f32 :=
  VO.read (Elt F) (VO.writes (Elt F) VO.junk (pieces m c (grid0.coords t)))

/-- The one store into the index result. -/
abbrev idxPiece : List (View.Piece (Elt F) S8x32768 .i32) :=
  [⟨Rect.unit (s := S8x32768) ![0, 0] S8x32768.size inb_S8x32768_S8x32768_0_0, k0_pay5⟩]

theorem read_idx (v : View sig .tc .vmem S8x32768 .i32) (f : v.ty.Contents (Elt F)) :
    v.read (Elt F) (v.writes (Elt F) f idxPiece) = k0_pay5 :=
  funext fun y => View.read_writes_cons_hit_of_coords v f
    (Rect.unit (s := S8x32768) ![0, 0] S8x32768.size inb_S8x32768_S8x32768_0_0) k0_pay5 [] y y
    (Fin.forall_fin_two.mpr ⟨by show _ = 0 + 1 * _; omega, by show _ = 0 + 1 * _; omega⟩)

def dats (_ : Fin 1) (c : Dev nD) : Dat τ (Elt F) Unit ℕ (Pipeline.UD sig nD τ) ℕ cfg0 c where
  A w := V m c (Pipeline.arrRef spec0 w)
  after w t := match w with
    | ⟨0, _⟩ => outBlk m c t
    | ⟨1, _⟩ => k0_pay5
  Φ t := PhiC m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = outBlk m c t := by dsimp only [dats]
theorem after_1 (c : Dev nD) (t : Fin cfg0.N) : (dats m 0 c).after 1 t = k0_pay5 := by dsimp only [dats]
theorem Phi_castSucc (c : Dev nD) (t : Fin cfg0.N) : (dats m 0 c).Φ t.castSucc = PhiC m c t.val := by
  dsimp only [dats]; exact Pipeline.Dat.Φ_castSucc (fun n _ => PhiC m c n) t
theorem Phi_succ (c : Dev nD) (t : Fin cfg0.N) : (dats m 0 c).Φ t.succ = PhiC m c (t.val + 1) := rfl

/-- The guard of the copies holds at the first point alone. -/
theorem cond_iff : ∀ t : Fin cfg0.N, k0_cond1 (grid0.coords t) = 1#1 ↔ t.val = 0 := by decide

theorem idle_1 : ∀ t : Fin cfg0.N, cfg0.idle 1 (cfg0.grid.coords t) = !(decide (t.val = 0)) := by decide

theorem fresh_1 : ∀ n, n ≤ cfg0.N → cfg0.fresh 1 n = (fun n : Nat => decide (n = 0) || decide (n = 8)) n :=
  Pipeline.Cfg.fresh_tab cfg0 1 _ rfl (by decide)

/-- After the first point the index window holds what the first point stored. -/
theorem before_1 (c : Dev nD) (t : Fin cfg0.N) (ht : t.val ≠ 0) (d) : (dats m 0 c).before 1 t d = k0_pay5 := by
  have h := Pipeline.Dat.before_out_traj (dats m 0 c) 1 rfl (fun _ _ => rfl)
    (fun t _ _ _ => by rw [after_1, after_1]) t.val t rfl d
  rw [h, after_1, fresh_1 t.val (Nat.le_of_lt t.isLt), if_neg]
  have := t.isLt
  have hN : cfg0.N = 8 := N_0
  simp only [Bool.or_eq_true, decide_eq_true_eq]; omega

end Cert.KernelIdeal.Hand

end
-- ==== Proof.Body.lean ====
module

public import proofs.«01_k».proof.Proof.Run
public import Idealize.ShloMosaic.Lib.Pipeline.TableIdle

/-! The body at every grid point, from what the windows and the working buffers hold before it to what they hold after it. -/

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- What it leaves there. -/
def bodyPost (c : Dev nD) (t : Fin cfg0.N) : sProp 𝕄 :=
  iprop((dats m 0 c).Φ t.succ ∗ (dats m 0 c).owesAt () t.succ
    ∗ owns (c : Thread nD τ) (ms0 t) fullShare (outBlk m c t)
    ∗ owns (c : Thread nD τ) (ms1 t) fullShare k0_pay5)

/-- The first point. -/
theorem sound_first (c : Dev nD) (t : Fin cfg0.N) (ht : t.val = 0) :
    bodyPre m c t ⊢ wp frame (wpE (defs₀ (F := F)) Variants.none (c : Thread nD τ) none) Set.univ (bodyAt0 t) (fun _ => bodyPost m c t) := by
  have hi : k0_cond1 (grid0.coords t) = 1#1 := (cond_iff t).mpr ht
  unfold bodyPre bodyPost owns
  rw [Phi_castSucc, Phi_succ, ht, PhiC_zero, PhiC_pos m c (0 + 1) (by omega), PhiD0_eq]
  unfold mid
  unfold Dat.owesAt Pipeline.owesWithin
  rw [show (dats m 0 c).owed t.castSucc = 0 from rfl, show (dats m 0 c).owed t.succ = 0 from rfl]
  iintro ⟨⟨⟨⟨%d0, HS0⟩, ⟨%d1, HS1⟩, ⟨%d2, HS2⟩, ⟨%d3, HS3⟩, ⟨%d4, HS4⟩, ⟨%d5, HS5⟩, ⟨%d6, HS6⟩, ⟨%b0, HB⟩⟩, Hr, ⟨Hc0, Hc1, Hc2, Hc3⟩,
    ⟨Hh0, Hh1, Hh2, Hh3, Hh4, Hh5, Hh6⟩⟩, ⟨%W, -, HW⟩, ⟨%e0, ⟨%f8, -, H8⟩⟩, ⟨%e1, ⟨%d9, -, H9⟩⟩⟩
  iapply ((restRun c (grid0.coords t) (G0 m c) (G1 m c) (G2 m c) (G3 m c) (G4 m c) (G5 m c) (G6 m c)).2 (ms0 t) (hs0 t) (ms1 t) (hs1 t) f8 b0
    (iprop(held c sInp d0 ∗ held c sDat d1 ∗ held c sCmx d2 ∗ held c sTw d3 ∗ held c sTb d4 ∗ held c sLoc d5 ∗ held c sSpc d6
      ∗ heldOn c (ms1 t) d9
      ∗ semVal ((c : Thread nD τ), SemLoc.dma 3) 0 ∗ semVal ((c : Thread nD τ), SemLoc.dma 4) 0
      ∗ semVal ((c : Thread nD τ), SemLoc.dma 5) 0 ∗ semVal ((c : Thread nD τ), SemLoc.dma 6) 0
      ∗ held c hInp (V m c main_v0) ∗ held c hDat (V m c main_v1) ∗ held c hCmx (V m c main_v2)
      ∗ held c hTw (V m c main_arg3) ∗ held c hTb (V m c main_arg4) ∗ held c hLoc (V m c main_v3) ∗ held c hSpc (V m c main_v4)
      ∗ owes c 0 W))
    (iprop((∃ f, heldOn c (ms1 t) ((ms1 t).view.writes (Elt F) f idxPiece))
      ∗ semVal ((c : Thread nD τ), SemLoc.dma 3) 0 ∗ semVal ((c : Thread nD τ), SemLoc.dma 4) 0
      ∗ semVal ((c : Thread nD τ), SemLoc.dma 5) 0 ∗ semVal ((c : Thread nD τ), SemLoc.dma 6) 0
      ∗ held c hInp (V m c main_v0) ∗ held c hDat (V m c main_v1) ∗ held c hCmx (V m c main_v2)
      ∗ held c hTw (V m c main_arg3) ∗ held c hTb (V m c main_arg4) ∗ held c hLoc (V m c main_v3) ∗ held c hSpc (V m c main_v4)
      ∗ (∃ W', owes c 0 W')))
    (fun K => by
      iintro ⟨⟨HS0, HS1, HS2, HS3, HS4, HS5, HS6, H9, Hc0, Hc1, Hc2, Hc3, Hh0, Hh1, Hh2, Hh3, Hh4, Hh5, Hh6, HW⟩, Hk⟩
      iapply (part1_first c (grid0.coords t) hi (ms0 t) (hs0 t) (ms1 t) (hs1 t) (V m c main_v0) (V m c main_v1) (V m c main_v2)
        (V m c main_arg3) (V m c main_arg4) (V m c main_v3) (V m c main_v4) d0 d1 d2 d3 d4 d5 d6 d9 W K)
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [H9]; · iexact H9
      isplitl [Hc0]; · iexact Hc0
      isplitl [Hc1]; · iexact Hc1
      isplitl [Hc2]; · iexact Hc2
      isplitl [Hc3]; · iexact Hc3
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [HW]; · iexact HW
      iintro ⟨HS0, HS1, HS2, HS3, HS4, HS5, HS6, H9, Hc0, Hc1, Hc2, Hc3, Hh0, Hh1, Hh2, Hh3, Hh4, Hh5, Hh6, HW⟩
      iapply Hk
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [H9]; · iexact H9
      isplitl [Hc0]; · iexact Hc0
      isplitl [Hc1]; · iexact Hc1
      isplitl [Hc2]; · iexact Hc2
      isplitl [Hc3]; · iexact Hc3
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      iexact HW)
    (fun _ => _))
  isplitl [HS0 HS1 HS2 HS3 HS4 HS5 HS6 H9 Hc0 Hc1 Hc2 Hc3 Hh0 Hh1 Hh2 Hh3 Hh4 Hh5 Hh6 HW]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [H9]; · iexact H9
    isplitl [Hc0]; · iexact Hc0
    isplitl [Hc1]; · iexact Hc1
    isplitl [Hc2]; · iexact Hc2
    isplitl [Hc3]; · iexact Hc3
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    iexact HW
  isplitl [H8]; · iexact H8
  isplitl [HB]; · iexact HB
  iintro ⟨HS0, HS1, HS2, HS3, HS4, HS5, HS6, ⟨⟨%e9, H9⟩, Hc0, Hc1, Hc2, Hc3, Hh0, Hh1, Hh2, Hh3, Hh4, Hh5, Hh6, ⟨%W', HW⟩⟩, ⟨%e8, H8⟩, HB⟩
  isplitl [HS0 HS1 HS2 HS3 HS4 HS5 HS6 HB Hr Hc0 Hc1 Hc2 Hc3 Hh0 Hh1 Hh2 Hh3 Hh4 Hh5 Hh6]
  · isplitl [HS0 HS1 HS2 HS3 HS4 HS5 HS6 HB]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HB
    isplitl [Hr]; · iexact Hr
    isplitl [Hc0 Hc1 Hc2 Hc3]
    · isplitl [Hc0]; · iexact Hc0
      isplitl [Hc1]; · iexact Hc1
      isplitl [Hc2]; · iexact Hc2
      iexact Hc3
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexact Hh6
  isplitl [HW]
  · iexists W'; isplitr; · ipureintro; exact fun _ _ => Or.inl trivial
    iexact HW
  isplitl [H8]
  · iexists _; isplitr
    swap; · iexact H8
    ipureintro; exact View.read_writes_of_cover _ _ _ _ _ (cover_pieces m c (grid0.coords t))
  iexists _; isplitr
  swap; · iexact H9
  ipureintro; exact read_idx _ _

/-- Every later point. -/
theorem sound_later (c : Dev nD) (t : Fin cfg0.N) (ht : t.val ≠ 0) :
    bodyPre m c t ⊢ wp frame (wpE (defs₀ (F := F)) Variants.none (c : Thread nD τ) none) Set.univ (bodyAt0 t) (fun _ => bodyPost m c t) := by
  have hi : k0_cond1 (grid0.coords t) ≠ 1#1 := fun h => ht ((cond_iff t).mp h)
  unfold bodyPre bodyPost
  simp only [before_1 m c t ht]
  unfold owns
  rw [Phi_castSucc, Phi_succ, PhiC_pos m c t.val ht, PhiC_pos m c (t.val + 1) (by omega)]
  unfold mid
  unfold Dat.owesAt Pipeline.owesWithin
  rw [show (dats m 0 c).owed t.castSucc = 0 from rfl, show (dats m 0 c).owed t.succ = 0 from rfl]
  iintro ⟨⟨⟨HS0, HS1, HS2, HS3, HS4, HS5, HS6, ⟨%b0, HB⟩⟩, Hr, Hc, Hh⟩, ⟨%W, -, HW⟩, ⟨%e0, ⟨%f8, -, H8⟩⟩, ⟨%e1, H9⟩⟩
  iapply ((restRun c (grid0.coords t) (G0 m c) (G1 m c) (G2 m c) (G3 m c) (G4 m c) (G5 m c) (G6 m c)).2 (ms0 t) (hs0 t) (ms1 t) (hs1 t) f8 b0
    (iprop(held c sInp (G0 m c) ∗ held c sDat (G1 m c) ∗ held c sCmx (G2 m c) ∗ held c sTw (G3 m c) ∗ held c sTb (G4 m c)
      ∗ held c sLoc (G5 m c) ∗ held c sSpc (G6 m c) ∗ owes c 0 W))
    (iprop(owes c 0 W))
    (fun K => by
      iintro ⟨HP, Hk⟩
      iapply (part1_other c (grid0.coords t) hi (ms0 t) (hs0 t) (ms1 t) (hs1 t) K)
      iapply Hk
      iexact HP)
    (fun _ => _))
  isplitl [HS0 HS1 HS2 HS3 HS4 HS5 HS6 HW]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HW
  isplitl [H8]; · iexact H8
  isplitl [HB]; · iexact HB
  iintro ⟨HS0, HS1, HS2, HS3, HS4, HS5, HS6, HW, ⟨%e8, H8⟩, HB⟩
  isplitl [HS0 HS1 HS2 HS3 HS4 HS5 HS6 HB Hr Hc Hh]
  · isplitl [HS0 HS1 HS2 HS3 HS4 HS5 HS6 HB]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HB
    isplitl [Hr]; · iexact Hr
    isplitl [Hc]; · iexact Hc
    iexact Hh
  isplitl [HW]
  · iexists W; isplitr; · ipureintro; exact fun _ _ => Or.inl trivial
    iexact HW
  isplitl [H8]
  · iexists _; isplitr
    swap; · iexact H8
    ipureintro; exact View.read_writes_of_cover _ _ _ _ _ (cover_pieces m c (grid0.coords t))
  iexact H9

theorem sound_body (c : Dev nD) (t : Fin cfg0.N) :
    bodyPre m c t ⊢ wp frame (wpE (defs₀ (F := F)) Variants.none (c : Thread nD τ) none) Set.univ (bodyAt0 t) (fun _ => bodyPost m c t) := by
  by_cases ht : t.val = 0
  · exact sound_first m c t ht
  · exact sound_later m c t ht

theorem defs₀_row (t : Fin cfg0.N) : defs₀ (F := F) .tc cfg0.body (cfg0.bodyArgs t (cfg0.slots t)) = bodyAt0 t := by
  unfold defs₀; rw [Defs.onTc_tc]

/-- What the index window is left at, as the grid loop asks for it: idle points keep what they found, which is
the same contents. -/
theorem post_1 (c : Dev nD) (t : Fin cfg0.N) :
    (owns (c : Thread nD τ) (ms1 t) fullShare k0_pay5 : sProp 𝕄) ⊢
      (match cfg0.idle 1 (cfg0.grid.coords t) with
        | true => match (cfg0.win 1).flush t with
          | false => iprop(∃ d, owns (c : Thread nD τ) ((cfg0.win 1).stage (cfg0.slots t 1)) fullShare ((dats m 0 c).before 1 t d))
          | true => owns (c : Thread nD τ) ((cfg0.win 1).stage (cfg0.slots t 1)) fullShare ((dats m 0 c).after 1 t)
        | false => owns (c : Thread nD τ) ((cfg0.win 1).stage (cfg0.slots t 1)) fullShare ((dats m 0 c).after 1 t)) := by
  by_cases ht : t.val = 0
  · rw [show cfg0.idle 1 (cfg0.grid.coords t) = false from by rw [idle_1]; simp [ht], after_1]
  · rw [show cfg0.idle 1 (cfg0.grid.coords t) = true from by rw [idle_1]; simp [ht], after_1]
    cases (cfg0.win 1).flush t with
    | true => exact .rfl
    | false =>
      simp only [before_1 m c t ht]
      iintro H
      iexists k0_pay5
      iexact H

theorem idle_0 : ∀ t : Fin cfg0.N, cfg0.idle 0 (cfg0.grid.coords t) = false := by decide

/-- The output window is never idle. -/
theorem post_0 (c : Dev nD) (t : Fin cfg0.N) :
    (owns (c : Thread nD τ) (ms0 t) fullShare (outBlk m c t) : sProp 𝕄) ⊢
      (match cfg0.idle 0 (cfg0.grid.coords t) with
        | true => match (cfg0.win 0).flush t with
          | false => iprop(∃ d, owns (c : Thread nD τ) ((cfg0.win 0).stage (cfg0.slots t 0)) fullShare ((dats m 0 c).before 0 t d))
          | true => owns (c : Thread nD τ) ((cfg0.win 0).stage (cfg0.slots t 0)) fullShare ((dats m 0 c).after 0 t)
        | false => owns (c : Thread nD τ) ((cfg0.win 0).stage (cfg0.slots t 0)) fullShare ((dats m 0 c).after 0 t)) := by
  rw [idle_0 t, after_0]

theorem pre_loop (c : Dev nD) (t : Fin cfg0.N) :
    (iprop((dats m 0 c).Φ t.castSucc ∗ (dats m 0 c).owesAt () t.castSucc
      ∗ (∃ d, owns (c : Thread nD τ) ((cfg0.win 0).stage (cfg0.slots t 0)) fullShare ((dats m 0 c).before 0 t d))
      ∗ (∃ d, owns (c : Thread nD τ) ((cfg0.win 1).stage (cfg0.slots t 1)) fullShare ((dats m 0 c).before 1 t d))) : sProp 𝕄)
      ⊢ bodyPre m c t := by
  unfold bodyPre
  exact .rfl

set_option maxHeartbeats 1000000 in
theorem body_obligation (c : Dev nD) : BodyObligation (dats (F := F) m 0 c) (defs₀ (F := F)) Variants.none () Set.univ := fun t => by
  rw [bigSep_W0, bigSep_W0, defs₀_row]
  refine triple_restated (sound_body m c t) ?_ ?_ fun _ => ?_
  · rfl
  · exact pre_loop m c t
  unfold bodyPost
  iintro ⟨HP, HO, H0, H1⟩
  isplitl [HP]; · iexact HP
  isplitl [HO]; · iexact HO
  isplitl [H0]; · iapply (post_0 m c t); iexact H0
  iapply (post_1 m c t)
  iexact H1

end Cert.KernelIdeal.Hand

end
-- ==== Proof.Final.lean ====
module

public import proofs.«01_k».proof.Proof.Body
public import Idealize.ShloMosaic.Lib.Pipeline.TableIdle

/-! The whole program: it runs to its end, its arguments unchanged, its counters at zero, its results the arrays the grid loop
left. -/

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program around its grid loop. -/
theorem main_around : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The transpose after the loop touches none of the arrays the body copies from. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  simp only [hostOps1, List.mem_cons, List.mem_nil_iff, or_false] at hop
  subst hop
  refine Pipeline.sub_tailRefsBut _ _ _ _ (StableHlo.unary_bufs_sub ..) (fun k => k.elim0) fun b hb hm => ?_
  have hb' : b ≠ main_v5_0 ∧ b ≠ main_v6 := (by decide : ∀ b ∈ H0, b ≠ main_v5_0 ∧ b ≠ main_v6) b hb
  simp only [StableHlo.unary_bufs, Finset.mem_insert, Finset.mem_singleton] at hm
  rcases hm with e | e
  · exact hb'.1 (Proc.devRef_injective _ e)
  · exact hb'.2 (Proc.devRef_injective _ e)

/-- The contents of the arrays after the loop and the transpose. -/
abbrev W (c : Dev nD) (b : Ref sig .tc) : Buf (Elt F) ((c : Thread nD τ).loc b) :=
  Pipeline.afterTail₀ cfgs (dats m) 0 (V0 m) [hostOps1] c b

/-- What neither the loop nor the transpose writes is left as the loop found it. -/
theorem W_keep (c : Dev nD) (b : Ref sig .tc) (hb : b ≠ main_v6) (ha : ∀ w, Pipeline.arrRef spec0 w ≠ b) : W m c b = V m c b := by
  unfold W Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne hb)),
    Pipeline.withArrays_of_ne _ c (V0 m c) _ b ha]

/-- The first result is the transpose of the array the loop filled. -/
theorem W_v6 (c : Dev nD) : W m c main_v6
    = transpose S8x32768x40 [0, 2, 1] ((dats m 0 c).arrAt 0 cfg0.N) transposes_S8x40x32768_S8x32768x40_0_2_1 := by
  have h := Pipeline.withArrays_arr spec0 launch0.win.arr_inj c (V0 m c) (fun w => (dats m 0 c).arrAt w cfg0.N) 0
  refine Eq.trans ?_ (congrArg (fun x => transpose S8x32768x40 [0, 2, 1] x transposes_S8x40x32768_S8x32768x40_0_2_1) h)
  rfl

set_option backward.isDefEq.respectTransparency.types false in
theorem run_loop : θ_run defs (onTc (τ := τ) (main (F := F))) (s₀ m ρ)
    (fun r => Pipeline.FramePost cfgs (dats m) 0 (W m) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := main_around m) (hA := A_eq m)
    (hin := fun c => by rw [show (dats m 0 c).Φ 0 = PhiC m c 0 from rfl, PhiC_zero])
    (hout := fun c => by
      rw [show (dats m 0 c).Φ (Fin.last cfg0.N) = PhiC m c cfg0.N from rfl, PhiC_pos m c cfg0.N (by decide)]
      exact mid_forget m c)

/-- Each argument ends as launched. -/
theorem W_arg0 (c : Dev nD) : W m c main_arg0 = m ((c : Thread nD τ).loc main_arg0) := (W_keep m c _ (by decide) (by decide)).trans (V_main_arg0 m c)
theorem W_arg1 (c : Dev nD) : W m c main_arg1 = m ((c : Thread nD τ).loc main_arg1) := (W_keep m c _ (by decide) (by decide)).trans (V_main_arg1 m c)
theorem W_arg2 (c : Dev nD) : W m c main_arg2 = m ((c : Thread nD τ).loc main_arg2) := (W_keep m c _ (by decide) (by decide)).trans (V_main_arg2 m c)
theorem W_arg3 (c : Dev nD) : W m c main_arg3 = m ((c : Thread nD τ).loc main_arg3) := (W_keep m c _ (by decide) (by decide)).trans (V_main_arg3 m c)
theorem W_arg4 (c : Dev nD) : W m c main_arg4 = m ((c : Thread nD τ).loc main_arg4) := (W_keep m c _ (by decide) (by decide)).trans (V_main_arg4 m c)
theorem W_arg5 (c : Dev nD) : W m c main_arg5 = m ((c : Thread nD τ).loc main_arg5) := (W_keep m c _ (by decide) (by decide)).trans (V_main_arg5 m c)
theorem W_arg6 (c : Dev nD) : W m c main_arg6 = m ((c : Thread nD τ).loc main_arg6) := (W_keep m c _ (by decide) (by decide)).trans (V_main_arg6 m c)

/-- The run's end: the two results, the arguments as launched, every counter at zero. -/
theorem run_results : θ_run defs (onTc (τ := τ) (main (F := F))) ⟨m, fun _ => 0, ρ⟩ (fun r => (∀ c : Dev nD,
      r.2.mem ((c : Thread nD τ).loc main_v6)
          = transpose S8x32768x40 [0, 2, 1] ((dats m 0 c).arrAt 0 cfg0.N) transposes_S8x40x32768_S8x32768x40_0_2_1
      ∧ r.2.mem ((c : Thread nD τ).loc main_v5_1) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun _ h => ⟨fun c =>
    ⟨((h.1 c).2 main_v6 (Pipeline.mem_restRefs_of main_v6 (by decide) (by decide))).trans (W_v6 m c),
      (h.1 c).1 1,
      ((h.1 c).2 main_arg0 (Pipeline.mem_restRefs_of main_arg0 (by decide) (by decide))).trans (W_arg0 m c),
      ((h.1 c).2 main_arg1 (Pipeline.mem_restRefs_of main_arg1 (by decide) (by decide))).trans (W_arg1 m c),
      ((h.1 c).2 main_arg2 (Pipeline.mem_restRefs_of main_arg2 (by decide) (by decide))).trans (W_arg2 m c),
      ((h.1 c).2 main_arg3 (Pipeline.mem_restRefs_of main_arg3 (by decide) (by decide))).trans (W_arg3 m c),
      ((h.1 c).2 main_arg4 (Pipeline.mem_restRefs_of main_arg4 (by decide) (by decide))).trans (W_arg4 m c),
      ((h.1 c).2 main_arg5 (Pipeline.mem_restRefs_of main_arg5 (by decide) (by decide))).trans (W_arg5 m c),
      ((h.1 c).2 main_arg6 (Pipeline.mem_restRefs_of main_arg6 (by decide) (by decide))).trans (W_arg6 m c)⟩, h.2⟩) (run_loop m ρ)

/-- The arguments end as launched and every counter reads zero. -/
theorem run_quiet : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun _ h => ⟨fun c => (h.1 c).2.2, h.2⟩) (run_results m ρ)

end Cert.KernelIdeal.Hand

end
-- ==== Proof.Base.lean ====
module

public import proofs.«01_k».proof.Proof.Gen.KernelIdeal.Skeleton
public import Idealize.ShloMosaic.Lib.Pointwise

/-! What the kernel computes before it copies: the table it calls the base, read at a row and a column.

The table has one row per output column. Row 0 holds the variable embedding alone, rows 1 to 36 the time embedding,
rows 37 to 39 the three extra covariates. The kernel picks the rows of the time embedding by products with matrices of
zeros and ones; over the extended reals such a product is the entry it picks. -/

@[expose] public section

set_option maxRecDepth 16384

noncomputable section

namespace Cert.KernelIdeal.Value

open Idealize.ShloMosaic Idealize.ShloMosaic.TcCoe Idealize.SL.Sem
open Cert.KernelIdeal Cert.KernelIdeal.Gen

/-- A row that belongs to the time embedding. -/
def timed (r : Fin 40) : Prop := 1 ≤ r.val ∧ r.val ≤ 36

instance (r : Fin 40) : Decidable (timed r) := inferInstanceAs (Decidable (1 ≤ r.val ∧ r.val ≤ 36))

/-- The date column a row of the time embedding reads. -/
def ri (r : Fin 40) : Fin 6 := ⟨(r.val - 1) / 6 % 6, Nat.mod_lt _ (by decide)⟩

/-- The place of a row within its date column. -/
def rj (r : Fin 40) : Fin 6 := ⟨(r.val - 1) % 6, Nat.mod_lt _ (by decide)⟩

/-- The extra covariate a row from 37 on reads. -/
def rk (r : Fin 40) : Fin 3 := ⟨(r.val - 37) % 3, Nat.mod_lt _ (by decide)⟩

/-- One or zero as an extended real. -/
abbrev bit (p : Prop) [Decidable p] : EReal := if p then 1 else 0

theorem sitofp_bit (p : Prop) [Decidable p] :
    (FloatOps.sitofp (F := Ideal) .f32 (if p then 1#32 else 0#32) : EReal) = bit p := by
  unfold bit
  split
  · show ((((1#32 : BitVec 32).toInt : ℝ)) : EReal) = 1
    norm_num
  · show ((((0#32 : BitVec 32).toInt : ℝ)) : EReal) = 0
    norm_num

/-- The matrix that picks a row's date column. -/
theorem u_at (r : Fin 40) (i : Fin 6) : (k0_pay6 (F := Ideal) (ix2 r i) : EReal) = bit (timed r ∧ i = ri r) :=
  (congrArg (FloatOps.sitofp (F := Ideal) .f32) (by revert r i; decide +kernel)).trans (sitofp_bit _)

/-- The second picking matrix of the kernel, over its two index tables. -/
abbrev vmat : FVec Ideal S6x40 .f32 :=
  k0_pay8 (iota .tc S6x40 32 [0] iota_S6x40_d0_w32) (iota .tc S6x40 32 [1] iota_S6x40_d1_w32) k0_pay7 36#32

/-- The matrix that picks a row's place within its date column. -/
theorem v_at (j : Fin 6) (r : Fin 40) : (vmat (ix2 j r) : EReal) = bit (timed r ∧ j = rj r) :=
  (congrArg (FloatOps.sitofp (F := Ideal) .f32) (by revert r j; decide +kernel)).trans (sitofp_bit _)

/-- The matrix that picks a row's extra covariate. -/
theorem s_at (r : Fin 40) (k : Fin 3) : (k0_pay9 (F := Ideal) (ix2 r k) : EReal) = bit (37 ≤ r.val ∧ k = rk r) :=
  (congrArg (FloatOps.sitofp (F := Ideal) .f32) (by revert r k; decide +kernel)).trans (sitofp_bit _)

/-- The rows that go through the sine. -/
theorem wave_at (r : Fin 40) :
    IntOp.andi (k0_pay14 (ix2 r 0)) (IntOp.cmpi .ne (k0_pay15 (ix2 r 0)) 0#32) = if timed r ∧ rj r ≠ 0 then 1#1 else 0#1 := by
  revert r; decide +kernel

/-- A sum against a picking row is the picked entry, or zero when the row picks nothing. -/
theorem sum_pick {n : Nat} (p : Prop) [Decidable p] (a : Fin n) (f : Fin n → EReal) :
    ∑ i, bit (p ∧ i = a) * f i = if p then f a else 0 := by
  by_cases h : p
  · simp [bit, h, ite_mul]
  · simp [bit, h]

theorem sum_pick' {n : Nat} (p : Prop) [Decidable p] (a : Fin n) (f : Fin n → EReal) :
    ∑ i, f i * bit (p ∧ i = a) = if p then f a else 0 := by
  simp only [mul_comm (f _)]; exact sum_pick p a f

end Cert.KernelIdeal.Value
-- ==== Proof.BaseAt.lean ====
module

public import proofs.«01_k».proof.Proof.Base

/-! The base table at a row and a column, from what the scratch buffers hold. -/

@[expose] public section

set_option maxRecDepth 16384

noncomputable section

namespace Cert.KernelIdeal.Value

open Idealize.ShloMosaic Idealize.ShloMosaic.TcCoe Idealize.SL.Sem
open Cert.KernelIdeal Cert.KernelIdeal.Gen

/-- Row `r` of the picked 6x6 table: its entry at the row's date column and place, zero off the time embedding. -/
abbrev entry (M : FVec Ideal S6x6 .f32) (r : Fin 40) : EReal := if timed r then M (ix2 (ri r) (rj r)) else 0

/-- The doubly picked table on its diagonal. -/
theorem pick_diag (M : FVec Ideal S6x6 .f32) (r : Fin 40) :
    ∑ c : Fin 40, (∑ k : Fin 6, (∑ i : Fin 6, bit (timed r ∧ i = ri r) * M (ix2 i k)) * bit (timed c ∧ k = rj c))
        * bit (r = c) = entry M r := by
  have h : ∀ c : Fin 40, bit (r = c) = bit (True ∧ c = r) := fun c => by simp only [bit, true_and, eq_comm]
  simp only [h, sum_pick', sum_pick, if_true]
  by_cases ht : timed r <;> simp [entry, ht]

/-- The diagonal matrix the kernel multiplies by before it sums a row. -/
theorem eye_at (r c : Fin 40) :
    (FloatOps.sitofp (F := Ideal) .f32 ((IntOp.cmpi .eq (BitVec.ofNat 32 r.val) (BitVec.ofNat 32 c.val)).setWidth 32) : EReal)
      = bit (r = c) :=
  (congrArg (FloatOps.sitofp (F := Ideal) .f32) (by revert r c; decide +kernel)).trans (sitofp_bit _)

/-- The rows before the sine: the affine map of the picked date in the rows of the time embedding, the extra covariate in
the last three rows, zero in row 0. -/
theorem lin_at (dat : FVec Ideal S6x2048 .f32) (cmx : FVec Ideal S3x2048 .f32) (tw tb : FVec Ideal S6x6 .f32) (r : Fin 40) (l : Fin 2048) :
    k0_pay13 k0_pay6 vmat k0_pay9 dat cmx
        (k0_pay12 k0_pay6 (iota .tc S6x40 32 [0] iota_S6x40_d0_w32) (iota .tc S6x40 32 [1] iota_S6x40_d1_w32) k0_pay7 36#32 tw) tb (ix2 r l)
      = ((if timed r then dat (ix2 (ri r) l) else 0) * entry tw r + entry tb r)
          + (if 37 ≤ r.val then cmx (ix2 (rk r) l) else 0) := by
  pointwise [k0_pay13, k0_pay12]
  have hv : ∀ j c, (k0_pay8 (iota .tc S6x40 32 [0] iota_S6x40_d0_w32) (iota .tc S6x40 32 [1] iota_S6x40_d1_w32) k0_pay7 36#32
      : FVec Ideal S6x40 .f32) (ix2 j c) = bit (timed c ∧ j = rj c) := v_at
  simp only [u_at, hv, s_at, eye_at]
  rw [pick_diag tw r, pick_diag tb r, sum_pick, sum_pick]

/-- The base table: the variable embedding, plus the rows above with the sine taken where a row of the time embedding isn't
the first of its date column. -/
abbrev base (dat : FVec Ideal S6x2048 .f32) (cmx : FVec Ideal S3x2048 .f32) (tw tb : FVec Ideal S6x6 .f32) (loc : FVec Ideal S40x2048 .f32) :
    FVec Ideal S40x2048 .f32 :=
  k0_pay16 (k0_pay13 k0_pay6 vmat k0_pay9 dat cmx
      (k0_pay12 k0_pay6 (iota .tc S6x40 32 [0] iota_S6x40_d0_w32) (iota .tc S6x40 32 [1] iota_S6x40_d1_w32) k0_pay7 36#32 tw) tb)
    k0_pay14 k0_pay15 0#32 loc

/-- One entry of the time embedding: the affine map of a date, through the sine unless it is the first of its column. -/
abbrev wave (j : Fin 6) (x : EReal) : EReal := if j = 0 then x else Ideal.sin x

theorem base_at (dat : FVec Ideal S6x2048 .f32) (cmx : FVec Ideal S3x2048 .f32) (tw tb : FVec Ideal S6x6 .f32) (loc : FVec Ideal S40x2048 .f32)
    (r : Fin 40) (l : Fin 2048) :
    base dat cmx tw tb loc (ix2 r l)
      = loc (ix2 r l)
        + (if timed r then wave (rj r) (dat (ix2 (ri r) l) * tw (ix2 (ri r) (rj r)) + tb (ix2 (ri r) (rj r)))
            else if 37 ≤ r.val then cmx (ix2 (rk r) l) else 0) := by
  pointwise [base, k0_pay16]
  rw [wave_at, lin_at]
  refine congrArg (loc (ix2 r l) + ·) ?_
  by_cases ht : timed r
  · have h37 : ¬ 37 ≤ r.val := by have := ht.2; omega
    by_cases hj : rj r = 0 <;>
      simp only [entry, wave, ht, hj, h37, if_true, if_false, ne_eq, not_true_eq_false, not_false_eq_true, and_true, and_false,
        add_zero, Scalar.select, reduceIte] <;> rfl
  · by_cases h37 : 37 ≤ r.val <;>
      simp only [entry, ht, h37, if_true, if_false, false_and, zero_mul, zero_add, Scalar.select, reduceIte] <;> rfl

end Cert.KernelIdeal.Value
-- ==== Proof.Block.lean ====
module

public import proofs.«01_k».proof.Proof.BaseAt
public import proofs.«01_k».proof.Proof.Run
public import Idealize.ShloMosaic.Lib.VecWindow

/-! What one grid point leaves in the output block.

The block has sixteen bands of 2048 columns, one for each input variable. Into every band the kernel writes the whole base
table and then, over row 0, the base's row 0 plus the variable's values and its space embedding. -/

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Hand

/-- The variable embedding, an input variable's row and its space embedding, as the kernel adds them into row 0. -/
abbrev small (n : ℕ) (h : n < 16) (row0 : FVec Ideal S1x2048 .f32) (inp : FVec Ideal S16x2048 .f32) (spc : FVec Ideal S1x1 .f32) :
    FVec Ideal S1x1x2048 .f32 :=
  shapeCast S1x1x2048 (addf (addf row0 (extractStridedSlice S1x2048 ![n, 0] inp
      ⟨rfl, Fin.forall_fin_two.mpr ⟨by show n + 1 ≤ 16; omega, by show 0 + 2048 ≤ 2048; omega⟩⟩))
    (broadcastTo S1x2048 spc broadcasts_S1x1_S1x2048)) shapeCasts_S1x2048_S1x1x2048

theorem small_at (n : ℕ) (h : n < 16) (row0 : FVec Ideal S1x2048 .f32) (inp : FVec Ideal S16x2048 .f32) (spc : FVec Ideal S1x1 .f32)
    (l : Fin 2048) :
    small n h row0 inp spc (ix3 0 0 l) = row0 (ix2 0 l) + inp (ix2 ⟨n, h⟩ l) + spc (ix2 0 0) := by
  pointwise [small]

/-- The working copies' windows that a grid point reads. -/
abbrev datAt (c : Dev nD) (i : grid0.Coords) (g : BufOf (F := Ideal) c sDat) : FVec Ideal S6x2048 .f32 :=
  k0_pay10 (sDat.view.readAt (Elt Ideal) (Rect.unit (s := S6x8x2048) (k0_off1 i) S6x1x2048.size (k0_off1_inb i)).toLoadRect g)

abbrev cmxAt (c : Dev nD) (i : grid0.Coords) (g : BufOf (F := Ideal) c sCmx) : FVec Ideal S3x2048 .f32 :=
  k0_pay11 (sCmx.view.readAt (Elt Ideal) (Rect.unit (s := S3x8x2048) (k0_off2 i) S3x1x2048.size (k0_off2_inb i)).toLoadRect g)

abbrev inpAt (c : Dev nD) (i : grid0.Coords) (g : BufOf (F := Ideal) c sInp) : FVec Ideal S16x2048 .f32 :=
  k0_pay17 (sInp.view.readAt (Elt Ideal) (Rect.unit (s := S8x16x2048) (k0_off3 i) S1x16x2048.size (k0_off3_inb i)).toLoadRect g)

abbrev spcAt (c : Dev nD) (g : BufOf (F := Ideal) c sSpc) (n : ℕ) (h : n < 16) : FVec Ideal S1x1 .f32 :=
  sSpc.view.readAt (Elt Ideal) (Rect.unit (s := S1x16) ![0, n] S1x1.size
    (Fin.forall_fin_two.mpr ⟨(by decide : 0 + 1 ≤ 1), (by omega : n + 1 ≤ 16)⟩)).toLoadRect g

theorem inSmall (n : ℕ) (h : n + 1 ≤ 16) : ∀ a : Fin 3, (![0, 0, 2048 * n] : Fin 3 → ℕ) a + S1x1x2048.size a ≤ S1x40x32768.size a :=
  Fin.forall_fin_succ.mpr ⟨(by decide : 0 + 1 ≤ 1), Fin.forall_fin_two.mpr ⟨(by decide : 0 + 1 ≤ 40), (by omega : 2048 * n + 2048 ≤ 32768)⟩⟩

theorem inBig (n : ℕ) (h : n + 1 ≤ 16) : ∀ a : Fin 3, (![0, 0, 2048 * n] : Fin 3 → ℕ) a + S1x40x2048.size a ≤ S1x40x32768.size a :=
  Fin.forall_fin_succ.mpr ⟨(by decide : 0 + 1 ≤ 1), Fin.forall_fin_two.mpr ⟨(by decide : 0 + 40 ≤ 40), (by omega : 2048 * n + 2048 ≤ 32768)⟩⟩

/-- The stores of the first `n` bands, the newest first. -/
def pcs (B : FVec Ideal S40x2048 .f32) (row0 : FVec Ideal S1x2048 .f32) (inp : FVec Ideal S16x2048 .f32)
    (spc : (n : ℕ) → n < 16 → FVec Ideal S1x1 .f32) : (n : ℕ) → n ≤ 16 → List (View.Piece (Elt Ideal) S1x40x32768 .f32)
  | 0, _ => []
  | n + 1, h =>
    ⟨Rect.unit (s := S1x40x32768) ![0, 0, 2048 * n] S1x1x2048.size (inSmall n h), small n h row0 inp (spc n h)⟩
      :: ⟨Rect.unit (s := S1x40x32768) ![0, 0, 2048 * n] S1x40x2048.size (inBig n h), shapeCast S1x40x2048 B shapeCasts_S40x2048_S1x40x2048⟩
      :: pcs B row0 inp spc n (by omega)

/-- Reading the stored block: row 0 of a band is the small store, the other rows are the big one's. -/
theorem read_pcs (f : VO.ty.Contents (Elt Ideal)) (B : FVec Ideal S40x2048 .f32)
    (row0 : FVec Ideal S1x2048 .f32) (inp : FVec Ideal S16x2048 .f32) (spc : (n : ℕ) → n < 16 → FVec Ideal S1x1 .f32)
    (r : Fin 40) (d : Fin 16) (l : Fin 2048) (q : Fin 32768) (hq : q.val = 2048 * d.val + l.val) :
    ∀ (n : ℕ) (h : n ≤ 16), d.val < n →
      VO.read (Elt Ideal) (VO.writes (Elt Ideal) f (pcs B row0 inp spc n h)) (ix3 0 r q)
        = if r = 0 then row0 (ix2 0 l) + inp (ix2 d l) + spc d.val d.isLt (ix2 0 0) else B (ix2 r l)
  | n + 1, h, hd => by
    rw [pcs]
    rcases Nat.lt_succ_iff_lt_or_eq.mp hd with hlt | heq
    · rw [View.read_writes_cons_miss_of_axis VO f _ _ (ix3 0 r q) 2 (2048 * n) 2048 rfl rfl rfl (Or.inl (by show q.val < _; omega)),
        View.read_writes_cons_miss_of_axis VO f _ _ (ix3 0 r q) 2 (2048 * n) 2048 rfl rfl rfl (Or.inl (by show q.val < _; omega))]
      exact read_pcs f B row0 inp spc r d l q hq n (by omega) hlt
    · subst heq
      by_cases hr : r = 0
      · subst hr
        rw [if_pos rfl, View.read_writes_cons_hit_of_coords VO f _ _ _ (ix3 0 0 l) (ix3 0 0 q) (Fin.forall_fin_succ.mpr ⟨rfl, Fin.forall_fin_two.mpr
          ⟨rfl, by show q.val = 2048 * d.val + 1 * l.val; omega⟩⟩)]
        exact small_at d.val d.isLt row0 inp (spc d.val d.isLt) l
      · rw [if_neg hr, View.read_writes_cons_miss_of_axis VO f _ _ (ix3 0 r q) 1 0 1 rfl rfl rfl
            (Or.inr (by show 0 + 1 ≤ r.val; have := Fin.val_ne_of_ne hr; simp at this; omega)),
          View.read_writes_cons_hit_of_coords VO f _ _ _ (ix3 0 r l) (ix3 0 r q) (Fin.forall_fin_succ.mpr ⟨rfl, Fin.forall_fin_two.mpr
          ⟨by show r.val = 0 + 1 * r.val; omega, by show q.val = 2048 * d.val + 1 * l.val; omega⟩⟩)]
        pointwise []

variable (m : (ℓ : Loc nD τ sig) → Buf (Elt Ideal) ℓ) (c : Dev nD)

/-- The base table as the kernel reads it back, and its row 0. -/
abbrev baseRead (i : grid0.Coords) : FVec Ideal S40x2048 .f32 :=
  restRun.sl.v146 (F := Ideal) c i (G1 m c) (G2 m c) (G3 m c) (G4 m c) (G5 m c)

abbrev row0Read (i : grid0.Coords) : FVec Ideal S1x2048 .f32 :=
  restRun.sl.v142 (F := Ideal) c i (G1 m c) (G2 m c) (G3 m c) (G4 m c) (G5 m c)

theorem pieces_eq (i : grid0.Coords) :
    pieces m c i = pcs (baseRead m c i) (row0Read m c i) (inpAt c i (G0 m c)) (spcAt c (G6 m c)) 16 le_rfl := by
  sl_kernel_rfl

/-- The base table at a grid point, from the working copies. -/
abbrev baseAt (i : grid0.Coords) : FVec Ideal S40x2048 .f32 :=
  base (datAt c i (G1 m c)) (cmxAt c i (G2 m c))
    (sTw.view.readAt (Elt Ideal) (Rect.unit (s := S6x6) ![0, 0] S6x6.size inb_S6x6_S6x6_0_0).toLoadRect (G3 m c))
    (sTb.view.readAt (Elt Ideal) (Rect.unit (s := S6x6) ![0, 0] S6x6.size inb_S6x6_S6x6_0_0).toLoadRect (G4 m c))
    (sLoc.view.readAt (Elt Ideal) (Rect.unit (s := S40x2048) ![0, 0] S40x2048.size inb_S40x2048_S40x2048_0_0).toLoadRect (G5 m c))

/-- The base buffer after one store of a whole table holds the table. -/
theorem read_base (w : FVec Ideal S40x2048 .f32) (y x : S40x2048.Idx)
    (h : ∀ a, (y a).val = (Rect.unit (s := S40x2048) ![0, 0] S40x2048.size inb_S40x2048_S40x2048_0_0).off a
      + (Rect.unit (s := S40x2048) ![0, 0] S40x2048.size inb_S40x2048_S40x2048_0_0).stride a * (x a).val) :
    sBase.view.read (Elt Ideal) (sBase.view.writes (Elt Ideal) sBase.view.junk
      [⟨Rect.unit (s := S40x2048) ![0, 0] S40x2048.size inb_S40x2048_S40x2048_0_0, w⟩]) y = w x := by
  exact View.read_writes_cons_hit_of_coords (Val := Elt Ideal) (s := S40x2048) (e := .f32) sBase.view sBase.view.junk
    (Rect.unit (s := S40x2048) ![0, 0] S40x2048.size inb_S40x2048_S40x2048_0_0) w [] x y h

theorem baseRead_at (i : grid0.Coords) (r : Fin 40) (l : Fin 2048) : baseRead m c i (ix2 r l) = baseAt m c i (ix2 r l) := by
  have h1 : baseRead m c i (ix2 r l) = sBase.view.read (Elt Ideal) (sBase.view.writes (Elt Ideal) sBase.view.junk
      [⟨Rect.unit (s := S40x2048) ![0, 0] S40x2048.size inb_S40x2048_S40x2048_0_0, baseAt m c i⟩])
      ((Rect.unit (s := S40x2048) ![0, 0] S40x2048.size inb_S40x2048_S40x2048_0_0).emb (ix2 r l)) := by sl_kernel_rfl
  rw [h1]
  exact read_base (baseAt m c i) _ _ (Fin.forall_fin_two.mpr ⟨rfl, rfl⟩)

theorem row0Read_at (i : grid0.Coords) (l : Fin 2048) : row0Read m c i (ix2 0 l) = baseAt m c i (ix2 0 l) := by
  have h1 : row0Read m c i (ix2 0 l) = sBase.view.read (Elt Ideal) (sBase.view.writes (Elt Ideal) sBase.view.junk
      [⟨Rect.unit (s := S40x2048) ![0, 0] S40x2048.size inb_S40x2048_S40x2048_0_0, baseAt m c i⟩])
      ((Rect.unit (s := S40x2048) ![0, 0] S1x2048.size inb_S40x2048_S1x2048_0_0).emb (ix2 0 l)) := by sl_kernel_rfl
  rw [h1]
  exact read_base (baseAt m c i) _ _ (Fin.forall_fin_two.mpr ⟨rfl, rfl⟩)

/-- Where a window of one row of the middle axis sits in a cube. -/
theorem emb_mid {A B C : ℕ} (off : Fin 3 → ℕ) (b : Fin B) (hoff : off = ![0, b.val, 0])
    (inb : ∀ a, off a + (![A, 1, C] : Fin 3 → ℕ) a ≤ (⟨3, ![A, B, C]⟩ : Shape).size a) (j : Fin A) (l : Fin C) :
    (Rect.unit (s := ⟨3, ![A, B, C]⟩) off ![A, 1, C] inb).emb (ix3 j (0 : Fin 1) l) = ix3 j b l := by
  subst hoff
  refine funext fun a => Fin.ext ?_
  revert a
  exact Fin.forall_fin_succ.mpr ⟨by show 0 + 1 * j.val = j.val; omega, Fin.forall_fin_two.mpr
    ⟨by show b.val + 1 * 0 = b.val; omega, by show 0 + 1 * l.val = l.val; omega⟩⟩

/-- Where a window of one slab of the first axis sits in a cube. -/
theorem emb_first {A B C : ℕ} (off : Fin 3 → ℕ) (b : Fin A) (hoff : off = ![b.val, 0, 0])
    (inb : ∀ a, off a + (![1, B, C] : Fin 3 → ℕ) a ≤ (⟨3, ![A, B, C]⟩ : Shape).size a) (j : Fin B) (l : Fin C) :
    (Rect.unit (s := ⟨3, ![A, B, C]⟩) off ![1, B, C] inb).emb (ix3 (0 : Fin 1) j l) = ix3 b j l := by
  subst hoff
  refine funext fun a => Fin.ext ?_
  revert a
  exact Fin.forall_fin_succ.mpr ⟨by show b.val + 1 * 0 = b.val; omega, Fin.forall_fin_two.mpr
    ⟨by show 0 + 1 * j.val = j.val; omega, by show 0 + 1 * l.val = l.val; omega⟩⟩

theorem datAt_at (i : grid0.Coords) (g : BufOf (F := Ideal) c sDat) (b : Fin 8) (hb : (i 0).val = b.val) (j : Fin 6) (l : Fin 2048) :
    datAt c i g (ix2 j l) = g (ix3 j b l) := by
  refine Eq.trans ?_ (congrArg g (emb_mid (k0_off1 i) b (by rw [k0_off1_eq, hb]) (k0_off1_inb i) j l))
  pointwise [datAt, k0_pay10]
  rfl

theorem cmxAt_at (i : grid0.Coords) (g : BufOf (F := Ideal) c sCmx) (b : Fin 8) (hb : (i 0).val = b.val) (j : Fin 3) (l : Fin 2048) :
    cmxAt c i g (ix2 j l) = g (ix3 j b l) := by
  refine Eq.trans ?_ (congrArg g (emb_mid (k0_off2 i) b (by rw [k0_off2_eq, hb]) (k0_off2_inb i) j l))
  pointwise [cmxAt, k0_pay11]
  rfl

theorem inpAt_at (i : grid0.Coords) (g : BufOf (F := Ideal) c sInp) (b : Fin 8) (hb : (i 0).val = b.val) (j : Fin 16) (l : Fin 2048) :
    inpAt c i g (ix2 j l) = g (ix3 b j l) := by
  refine Eq.trans ?_ (congrArg g (emb_first (k0_off3 i) b (by rw [k0_off3_eq, hb]) (k0_off3_inb i) j l))
  pointwise [inpAt, k0_pay17]
  rfl

theorem spcAt_at (g : BufOf (F := Ideal) c sSpc) (d : Fin 16) : spcAt c g d.val d.isLt (ix2 0 0) = g (ix2 0 d) :=
  congrArg g (funext fun a => Fin.ext (by
    revert a
    exact Fin.forall_fin_two.mpr ⟨rfl, by show d.val + 1 * 0 = d.val; omega⟩))

/-- The whole-buffer reads are the buffers. -/
theorem baseAt_eq (i : grid0.Coords) :
    baseAt m c i = base (datAt c i (G1 m c)) (cmxAt c i (G2 m c)) (G3 m c) (G4 m c) (G5 m c) := by
  unfold baseAt
  rw [show sTw.view.readAt (Elt Ideal) (Rect.unit (s := S6x6) ![0, 0] S6x6.size inb_S6x6_S6x6_0_0).toLoadRect (G3 m c) = G3 m c
        from View.readAt_full sTw.view (G3 m c) _,
    show sTb.view.readAt (Elt Ideal) (Rect.unit (s := S6x6) ![0, 0] S6x6.size inb_S6x6_S6x6_0_0).toLoadRect (G4 m c) = G4 m c
        from View.readAt_full sTb.view (G4 m c) _,
    show sLoc.view.readAt (Elt Ideal) (Rect.unit (s := S40x2048) ![0, 0] S40x2048.size inb_S40x2048_S40x2048_0_0).toLoadRect (G5 m c) = G5 m c
        from View.readAt_full sLoc.view (G5 m c) _]

/-- The working copies as tables. -/
abbrev tInp : FVec Ideal S8x16x2048 .f32 := G0 m c
abbrev tDat : FVec Ideal S6x8x2048 .f32 := G1 m c
abbrev tCmx : FVec Ideal S3x8x2048 .f32 := G2 m c
abbrev tTw : FVec Ideal S6x6 .f32 := G3 m c
abbrev tTb : FVec Ideal S6x6 .f32 := G4 m c
abbrev tLoc : FVec Ideal S40x2048 .f32 := G5 m c
abbrev tSpc : FVec Ideal S1x16 .f32 := G6 m c

/-- The block a grid point leaves, entry by entry. -/
theorem outBlk_at (t : Fin cfg0.N) (b : Fin 8) (hb : (grid0.coords t 0).val = b.val) (r : Fin 40) (d : Fin 16) (l : Fin 2048)
    (q : Fin 32768) (hq : q.val = 2048 * d.val + l.val) :
    outBlk m c t (ix3 0 r q)
      = if r = 0 then tLoc m c (ix2 0 l) + tInp m c (ix3 b d l) + tSpc m c (ix2 0 d)
        else tLoc m c (ix2 r l)
          + (if timed r then wave (rj r) (tDat m c (ix3 (ri r) b l) * tTw m c (ix2 (ri r) (rj r)) + tTb m c (ix2 (ri r) (rj r)))
              else if 37 ≤ r.val then tCmx m c (ix3 (rk r) b l) else 0) := by
  unfold outBlk
  rw [pieces_eq, read_pcs _ _ _ _ _ r d l q hq 16 le_rfl d.isLt, row0Read_at, baseRead_at, baseAt_eq, base_at, base_at]
  simp only [inpAt_at c _ _ b hb, spcAt_at, datAt_at c _ _ b hb, cmxAt_at c _ _ b hb]
  by_cases h : r = 0
  · subst h
    rw [if_pos rfl, if_pos rfl, if_neg (by decide), if_neg (by decide), add_zero]
  · rw [if_neg h, if_neg h]

end Cert.KernelIdeal.Value
-- ==== Proof.Take.lean ====
module

public import proofs.«01_k».proof.Proof.Gen.ReferenceIdeal.Read
public import Idealize.ShloMosaic.Lib.Pointwise
public import Idealize.ShloMosaic.Lib.ReduceAll
public import Idealize.ShloMosaic.Lib.Routing.Ops

/-! The reference's index arithmetic and its two row lookups.

Column `q` of the long axis belongs to input variable `q / 2048` and to time step `q % 2048`. -/

@[expose] public section

noncomputable section

namespace Cert.ReferenceIdeal.Table

open Idealize.ShloMosaic Idealize.ShloMosaic.TcCoe Idealize.SL.Sem
open Cert.ReferenceIdeal Cert.ReferenceIdeal.Gen Cert.ReferenceIdeal.Read

/-- The time step of a column. -/
abbrev step (q : Fin 32768) : Fin 2048 := ⟨q.val % 2048, Nat.mod_lt _ (by decide)⟩
/-- The input variable of a column. -/
abbrev var (q : Fin 32768) : Fin 16 := ⟨q.val / 2048, by have := q.isLt; omega⟩

/-- A time step isn't negative and is a row of the position table. -/
theorem step_range (n : Fin 2048) : IntOp.cmpi .slt (BitVec.ofNat 32 n.val) 0#32 = 0#1 ∧ IntOp.cmpi .sge (BitVec.ofNat 32 n.val) 0#32 = 1#1
    ∧ IntOp.cmpi .sle (BitVec.ofNat 32 n.val) 4095#32 = 1#1 := by
  revert n; decide +kernel

/-- A variable number isn't negative and is a row of the space table. -/
theorem var_range (n : Fin 16) : IntOp.cmpi .slt (BitVec.ofNat 32 n.val) 0#32 = 0#1 ∧ IntOp.cmpi .sge (BitVec.ofNat 32 n.val) 0#32 = 1#1
    ∧ IntOp.cmpi .sle (BitVec.ofNat 32 n.val) 15#32 = 1#1 := by
  revert n; decide +kernel

theorem pos_at (i : S32768.Idx) : val_main_v3 (F := Ideal) i = BitVec.ofNat 32 (step (i 0)).val := by
  rw [val_main_v3_apply, val_main_v2_apply, val_main_v1_apply, val_main_v0_apply]
  exact congrArg (BitVec.ofNat 32) (by show 0 * 2048 + (i 0).val % 2048 = (i 0).val % 2048; omega)

theorem pos_start (i : S32768x1.Idx) : val_main_call0_v5 (F := Ideal) i = BitVec.ofNat 32 (step (i 0)).val := by
  rw [val_main_call0_v5_apply, val_main_call0_v4_apply, val_main_call0_v1_apply, pos_at, val_main_call0_v0_apply, val_main_call0_c_apply,
    (step_range _).1]
  rfl

theorem pos_ok (i : S32768x1.Idx) : val_main_call0_v11 (F := Ideal) i = 1#1 := by
  rw [val_main_call0_v11_apply, val_main_call0_v7_apply, val_main_call0_v10_apply, pos_start, val_main_call0_v6_apply, val_main_call0_c_2_apply,
    val_main_call0_v9_apply, val_main_call0_v8_apply, val_main_call0_c_1_apply, (step_range _).2.1, (step_range _).2.2]
  rfl

/-- The first lookup takes the row of the time step. -/
theorem pos_take (x5 : FVec Ideal S4096x40 .f32) (q : Fin 32768) (r : Fin 40) :
    val_main_v4 (F := Ideal) x5 (ix2 q r) = x5 (ix2 ⟨(step q).val, by have := (step q).isLt; omega⟩ r) := by
  rw [val_main_v4_apply, val_main_call0_v14_apply, show val_main_call0_v12 (F := Ideal) (idx_main_call0_v14 (ix2 q r)) = 1#1 from
    Host.reduce_andi_one _ _ _ _ _ (val_main_call0_c_3_apply _) pos_ok]
  exact Routing.gather_row (nb := 4096) (B := 40) (n := 32768) gather_S4096x40_S32768x1_S32768x40_1_0_n_n_0_1_140 rfl rfl rfl rfl rfl x5
    (val_main_call0_v5 (F := Ideal)) q r ⟨(step q).val, by have := (step q).isLt; omega⟩ (pos_start (ix2 q 0)) (by decide)

theorem var_at (i : S32768.Idx) : val_main_v27 (F := Ideal) i = BitVec.ofNat 32 (var (i 0)).val := by
  rw [val_main_v27_apply, val_main_v26_apply, val_main_v25_apply]

theorem var_start (i : S32768x1.Idx) : val_main_call1_v5 (F := Ideal) i = BitVec.ofNat 32 (var (i 0)).val := by
  rw [val_main_call1_v5_apply, val_main_call1_v4_apply, val_main_call1_v1_apply, var_at, val_main_call1_v0_apply, val_main_call1_c_apply,
    (var_range _).1]
  rfl

theorem var_ok (i : S32768x1.Idx) : val_main_call1_v11 (F := Ideal) i = 1#1 := by
  rw [val_main_call1_v11_apply, val_main_call1_v7_apply, val_main_call1_v10_apply, var_start, val_main_call1_v6_apply, val_main_call1_c_2_apply,
    val_main_call1_v9_apply, val_main_call1_v8_apply, val_main_call1_c_1_apply, (var_range _).2.1, (var_range _).2.2]
  rfl

/-- The second lookup takes the row of the input variable. -/
theorem var_take (x6 : FVec Ideal S16x1 .f32) (q : Fin 32768) (r : Fin 1) :
    val_main_v30 (F := Ideal) x6 (ix2 q r) = x6 (ix2 (var q) r) := by
  rw [val_main_v30_apply, val_main_call1_v14_apply, show val_main_call1_v12 (F := Ideal) (idx_main_call1_v14 (ix2 q r)) = 1#1 from
    Host.reduce_andi_one _ _ _ _ _ (val_main_call1_c_3_apply _) var_ok]
  exact Routing.gather_row (nb := 16) (B := 1) (n := 32768) gather_S16x1_S32768x1_S32768x1_1_0_n_n_0_1_11 rfl rfl rfl rfl rfl x6
    (val_main_call1_v5 (F := Ideal)) q r (var q) (var_start (ix2 q 0)) (by decide)

/-- The second result: the variable number of every column. -/
theorem index_at (b : Fin 8) (q : Fin 32768) : val_main_v29 (F := Ideal) (ix2 b q) = BitVec.ofNat 32 (var q).val := by
  rw [val_main_v29_apply, val_main_v28_apply, var_at]
  rfl

end Cert.ReferenceIdeal.Table

end
-- ==== Proof.Table.lean ====
module

public import proofs.«01_k».proof.Proof.Take
public import proofs.«01_k».proof.Proof.BaseAt
public import Idealize.ShloMosaic.Lib.ValueIdxRank6

/-! The reference's embedding table, entry by entry. -/

@[expose] public section

noncomputable section

namespace Cert.ReferenceIdeal.Table

open Idealize.ShloMosaic Idealize.ShloMosaic.TcCoe Idealize.SL.Sem
open Cert.ReferenceIdeal Cert.ReferenceIdeal.Gen Cert.ReferenceIdeal.Read
open Cert.KernelIdeal.Value (timed ri rj rk wave)

/-- The position embedding. -/
theorem position_at (x5 : FVec Ideal S4096x40 .f32) (b : Fin 8) (q : Fin 32768) (r : Fin 40) :
    val_main_v6 (F := Ideal) x5 (ix3 b q r) = x5 (ix2 ⟨(step q).val, by have := (step q).isLt; omega⟩ r) := by
  rw [val_main_v6_apply, val_main_v5_apply, ← pos_take x5 q r]
  exact congrArg (val_main_v4 (F := Ideal) x5) (funext fun a => by revert a; exact Fin.forall_fin_two.mpr ⟨rfl, rfl⟩)

/-- The dates, repeated for every input variable. -/
theorem dates_at (x1 : FVec Ideal S8x2048x6 .f32) (b : Fin 8) (q : Fin 32768) (j : Fin 6) :
    val_main_v9 (F := Ideal) x1 (ix3 b q j) = x1 (ix3 b (step q) j) := by
  have hq := q.isLt
  have hb := b.isLt
  have hj := j.isLt
  unfold val_main_v9
  rw [shapeCast_apply _ _ _ (ix6 (0 : Fin 1) b (var q) (step q) (0 : Fin 1) j : S1x8x16x2048x1x6.Idx) (by
    rw [Shape.rowMajor_val_six, Shape.rowMajor_val_three]
    show ((((0 * 8 + b.val) * 16 + q.val / 2048) * 2048 + q.val % 2048) * 1 + 0) * 6 + j.val = (b.val * 32768 + q.val) * 6 + j.val
    omega), val_main_v8_apply]
  unfold val_main_v7
  exact shapeCast_apply _ _ _ (ix3 b (step q) j : S8x2048x6.Idx) (by
    rw [Shape.rowMajor_val_three, Shape.rowMajor_val_six]
    show (b.val * 2048 + q.val % 2048) * 6 + j.val = ((((0 * 8 + b.val) * 1 + 0) * 2048 + q.val % 2048) * 1 + 0) * 6 + j.val
    omega)

/-- The extra covariates, repeated for every input variable. -/
theorem extra_at (x2 : FVec Ideal S8x2048x3 .f32) (b : Fin 8) (q : Fin 32768) (j : Fin 3) :
    val_main_v37 (F := Ideal) x2 (ix3 b q j) = x2 (ix3 b (step q) j) := by
  have hq := q.isLt
  have hb := b.isLt
  have hj := j.isLt
  unfold val_main_v37
  rw [shapeCast_apply _ _ _ (ix6 (0 : Fin 1) b (var q) (step q) (0 : Fin 1) j : S1x8x16x2048x1x3.Idx) (by
    rw [Shape.rowMajor_val_six, Shape.rowMajor_val_three]
    show ((((0 * 8 + b.val) * 16 + q.val / 2048) * 2048 + q.val % 2048) * 1 + 0) * 3 + j.val = (b.val * 32768 + q.val) * 3 + j.val
    omega), val_main_v36_apply]
  unfold val_main_v35
  exact shapeCast_apply _ _ _ (ix3 b (step q) j : S8x2048x3.Idx) (by
    rw [Shape.rowMajor_val_three, Shape.rowMajor_val_six]
    show (b.val * 2048 + q.val % 2048) * 3 + j.val = ((((0 * 8 + b.val) * 1 + 0) * 2048 + q.val % 2048) * 1 + 0) * 3 + j.val
    omega)

/-- The affine maps of the dates. -/
theorem affine_at (x1 : FVec Ideal S8x2048x6 .f32) (x3 x4 : FVec Ideal S6x6 .f32) (b : Fin 8) (q : Fin 32768) (i j : Fin 6) :
    val_main_v17 (F := Ideal) x1 x3 x4 (ix4 b q i j) = x1 (ix3 b (step q) i) * x3 (ix2 i j) + x4 (ix2 i j) := by
  rw [val_main_v17_apply, val_main_v14_apply, val_main_v12_apply, val_main_v10_apply, val_main_v13_apply, val_main_v11_apply,
    val_main_v16_apply, val_main_v15_apply, ← dates_at x1 b q i]
  have h9 : idx_main_v10 (idx_main_v12 (ix4 b q i j)) = ix3 b q i :=
    funext fun a => by revert a; exact Fin.forall_fin_succ.mpr ⟨rfl, Fin.forall_fin_two.mpr ⟨rfl, rfl⟩⟩
  have h3 : idx_main_v11 (idx_main_v13 (ix4 b q i j)) = ix2 i j :=
    funext fun a => by revert a; exact Fin.forall_fin_two.mpr ⟨rfl, rfl⟩
  have h4 : idx_main_v15 (idx_main_v16 (ix4 b q i j)) = ix2 i j :=
    funext fun a => by revert a; exact Fin.forall_fin_two.mpr ⟨rfl, rfl⟩
  rw [h9, h3, h4]
  rfl

/-- The time embedding before it is flattened: the affine map, through the sine but for the first of a date. -/
theorem time_at (x1 : FVec Ideal S8x2048x6 .f32) (x3 x4 : FVec Ideal S6x6 .f32) (b : Fin 8) (q : Fin 32768) (i j : Fin 6) :
    val_main_v21 (F := Ideal) x1 x3 x4 (ix4 b q i j) = wave j (x1 (ix3 b (step q) i) * x3 (ix2 i j) + x4 (ix2 i j)) := by
  rw [← affine_at]
  pointwise [val_main_v21]
  by_cases h : j.val < 1
  · have hj : j = 0 := Fin.ext (by show j.val = 0; omega)
    subst hj
    rw [dif_pos h, val_main_v18_apply, wave, if_pos rfl]
    exact congrArg (val_main_v17 (F := Ideal) x1 x3 x4) (funext fun a => by
      revert a; exact Fin.forall_fin_succ.mpr ⟨rfl, Fin.forall_fin_succ.mpr ⟨rfl, Fin.forall_fin_two.mpr ⟨rfl, rfl⟩⟩⟩)
  · have hj : ¬ j = 0 := fun e => h (by rw [e]; decide)
    rw [dif_neg h, val_main_v20_apply, val_main_v19_apply]
    refine Eq.trans ?_ (if_neg hj).symm
    refine congrArg Ideal.sin (congrArg (val_main_v17 (F := Ideal) x1 x3 x4) (funext fun a => ?_))
    revert a
    exact Fin.forall_fin_succ.mpr ⟨rfl, Fin.forall_fin_succ.mpr ⟨rfl, Fin.forall_fin_two.mpr
      ⟨rfl, Fin.ext (by show 1 + (j.val - 1) = j.val; omega)⟩⟩⟩

/-- The time embedding, flattened. -/
theorem flat_at (x1 : FVec Ideal S8x2048x6 .f32) (x3 x4 : FVec Ideal S6x6 .f32) (b : Fin 8) (q : Fin 32768) (k : Fin 36) (i j : Fin 6)
    (hk : k.val = 6 * i.val + j.val) :
    val_main_v22 (F := Ideal) x1 x3 x4 (ix3 b q k) = wave j (x1 (ix3 b (step q) i) * x3 (ix2 i j) + x4 (ix2 i j)) := by
  rw [val_main_v22_apply, ← time_at]
  have hq := q.isLt
  have hj := j.isLt
  have hi := i.isLt
  refine congrArg (val_main_v21 (F := Ideal) x1 x3 x4) (funext fun a => Fin.ext ?_)
  revert a
  exact Fin.forall_fin_succ.mpr ⟨by show ((b.val * 32768 + q.val) * 36 + k.val) / 1179648 = b.val; omega,
    Fin.forall_fin_succ.mpr ⟨by show ((b.val * 32768 + q.val) * 36 + k.val) / 36 % 32768 = q.val; omega, Fin.forall_fin_two.mpr
      ⟨by show ((b.val * 32768 + q.val) * 36 + k.val) / 6 % 6 = i.val; omega,
        by show ((b.val * 32768 + q.val) * 36 + k.val) % 6 = j.val; omega⟩⟩⟩

/-- The input value and the space embedding of a column. -/
theorem head_at (x0 : FVec Ideal S8x2048x16 .f32) (x6 : FVec Ideal S16x1 .f32) (b : Fin 8) (q : Fin 32768) :
    val_main_v33 (F := Ideal) x0 x6 (ix3 b q 0) = x0 (ix3 b (step q) (var q)) + x6 (ix2 (var q) 0) := by
  have hq := q.isLt
  rw [val_main_v33_apply, val_main_v24_apply, val_main_v23_apply, val_main_v32_apply, val_main_v31_apply, ← var_take x6 q 0]
  have h0 : idx_main_v23 (idx_main_v24 (ix3 b q 0)) = ix3 b (step q) (var q) := by
    refine funext fun a => Fin.ext ?_
    revert a
    exact Fin.forall_fin_succ.mpr ⟨by show ((b.val * 32768 + q.val) * 1 + 0) / 32768 = b.val; omega, Fin.forall_fin_two.mpr
      ⟨by show ((b.val * 32768 + q.val) * 1 + 0) % 2048 = q.val % 2048; omega,
        by show ((b.val * 32768 + q.val) * 1 + 0) / 2048 % 16 = q.val / 2048; omega⟩⟩
  have h6 : idx_main_v31 (idx_main_v32 (ix3 b q 0)) = ix2 q 0 :=
    funext fun a => by revert a; exact Fin.forall_fin_two.mpr ⟨rfl, rfl⟩
  rw [h0, h6]
  rfl

/-- The embedding table in closed form: the position embedding of the time step, plus in row 0 the value and the space
embedding of the variable, in rows 1 to 36 the time embedding, in rows 37 to 39 the extra covariates. -/
def table (x0 : FVec Ideal S8x2048x16 .f32) (x1 : FVec Ideal S8x2048x6 .f32) (x2 : FVec Ideal S8x2048x3 .f32)
    (x3 x4 : FVec Ideal S6x6 .f32) (x5 : FVec Ideal S4096x40 .f32) (x6 : FVec Ideal S16x1 .f32) (b : Fin 8) (q : Fin 32768) (r : Fin 40) : EReal :=
  x5 (ix2 ⟨(step q).val, by have := (step q).isLt; omega⟩ r)
    + (if r = 0 then x0 (ix3 b (step q) (var q)) + x6 (ix2 (var q) 0)
      else if timed r then wave (rj r) (x1 (ix3 b (step q) (ri r)) * x3 (ix2 (ri r) (rj r)) + x4 (ix2 (ri r) (rj r)))
      else x2 (ix3 b (step q) (rk r)))

/-- The reference's first result is the table. -/
theorem table_at (x0 : FVec Ideal S8x2048x16 .f32) (x1 : FVec Ideal S8x2048x6 .f32) (x2 : FVec Ideal S8x2048x3 .f32)
    (x3 x4 : FVec Ideal S6x6 .f32) (x5 : FVec Ideal S4096x40 .f32) (x6 : FVec Ideal S16x1 .f32) (b : Fin 8) (q : Fin 32768) (r : Fin 40) :
    val_main_v39 (F := Ideal) x0 x1 x2 x3 x4 x5 x6 (ix3 b q r) = table x0 x1 x2 x3 x4 x5 x6 b q r := by
  rw [val_main_v39_apply, position_at]
  unfold table
  refine congrArg (x5 _ + ·) ?_
  pointwise [val_main_v38]
  by_cases h : r.val < 37
  · rw [dif_pos h]
    pointwise [val_main_v34]
    by_cases h0 : r.val < 1
    · have hr : r = 0 := Fin.ext (by show r.val = 0; omega)
      subst hr
      rw [dif_pos h0, if_pos rfl]
      exact head_at x0 x6 b q
    · have hr : ¬ r = 0 := fun e => h0 (by rw [e]; decide)
      have ht : timed r := ⟨by omega, by omega⟩
      rw [dif_neg h0]
      refine Eq.trans ?_ ((if_neg hr).trans (if_pos ht)).symm
      exact flat_at x1 x3 x4 b q _ (ri r) (rj r) (by
        show r.val - 1 = 6 * (ri r).val + (rj r).val
        simp only [ri, rj]
        omega)
  · have hr : ¬ r = 0 := fun e => h (by rw [e]; decide)
    have ht : ¬ timed r := fun e => h (by have := e.2; omega)
    rw [dif_neg h]
    refine Eq.trans ?_ ((if_neg hr).trans (if_neg ht)).symm
    refine (extra_at x2 b q _).trans (congrArg x2 (congrArg (ix3 b (step q)) (Fin.ext ?_)))
    show r.val - 37 = (r.val - 37) % 3
    have := r.isLt
    omega

end Cert.ReferenceIdeal.Table

end
-- ==== Proof.Array.lean ====
module

public import proofs.«01_k».proof.Proof.Block
public import proofs.«01_k».proof.Proof.Table
public import proofs.«01_k».proof.Proof.Final
public import Idealize.ShloMosaic.Lib.Pipeline.ValueKit

/-! The arrays the kernel leaves, as functions of the arguments. -/

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Hand
open Cert.ReferenceIdeal.Table (step var table)

variable (m : (ℓ : Loc nD τ sig) → Buf (Elt Ideal) ℓ) (c : Dev nD)

/-- The seven arguments as tables. -/
abbrev A0 : FVec Ideal S8x2048x16 .f32 := m ((c : Thread nD τ).loc main_arg0)
abbrev A1 : FVec Ideal S8x2048x6 .f32 := m ((c : Thread nD τ).loc main_arg1)
abbrev A2 : FVec Ideal S8x2048x3 .f32 := m ((c : Thread nD τ).loc main_arg2)
abbrev A3 : FVec Ideal S6x6 .f32 := m ((c : Thread nD τ).loc main_arg3)
abbrev A4 : FVec Ideal S6x6 .f32 := m ((c : Thread nD τ).loc main_arg4)
abbrev A5 : FVec Ideal S4096x40 .f32 := m ((c : Thread nD τ).loc main_arg5)
abbrev A6 : FVec Ideal S16x1 .f32 := m ((c : Thread nD τ).loc main_arg6)

theorem tInp_at (b : Fin 8) (d : Fin 16) (l : Fin 2048) : tInp m c (ix3 b d l) = A0 m c (ix3 b l d) := by
  have h : tInp m c = transpose S8x16x2048 [0, 2, 1] (A0 m c) transposes_S8x2048x16_S8x16x2048_0_2_1 := rfl
  rw [h]
  pointwise []

theorem tDat_at (j : Fin 6) (b : Fin 8) (l : Fin 2048) : tDat m c (ix3 j b l) = A1 m c (ix3 b l j) := by
  have h : tDat m c = transpose S6x8x2048 [2, 0, 1] (A1 m c) transposes_S8x2048x6_S6x8x2048_2_0_1 := rfl
  rw [h]
  pointwise []

theorem tCmx_at (j : Fin 3) (b : Fin 8) (l : Fin 2048) : tCmx m c (ix3 j b l) = A2 m c (ix3 b l j) := by
  have h : tCmx m c = transpose S3x8x2048 [2, 0, 1] (A2 m c) transposes_S8x2048x3_S3x8x2048_2_0_1 := rfl
  rw [h]
  pointwise []

theorem tTw_eq : tTw m c = A3 m c := V_main_arg3 m c
theorem tTb_eq : tTb m c = A4 m c := V_main_arg4 m c

theorem tLoc_at (r : Fin 40) (l : Fin 2048) : tLoc m c (ix2 r l) = A5 m c (ix2 ⟨l.val, by have := l.isLt; omega⟩ r) := by
  have h : (V m c main_v3 : FVec Ideal S40x4096 .f32) = transpose S40x4096 [1, 0] (A5 m c) transposes_S4096x40_S40x4096_1_0 := rfl
  have h' : tLoc m c (ix2 r l) = (V m c main_v3 : FVec Ideal S40x4096 .f32) (ix2 r ⟨l.val, by have := l.isLt; omega⟩) :=
    congrArg (V m c main_v3 : FVec Ideal S40x4096 .f32) (funext fun a => Fin.ext (by
      revert a
      exact Fin.forall_fin_two.mpr ⟨by show 0 + 1 * r.val = r.val; omega, by show 0 + 1 * l.val = l.val; omega⟩))
  rw [h', h]
  pointwise []

theorem tSpc_at (d : Fin 16) : tSpc m c (ix2 0 d) = A6 m c (ix2 d 0) := by
  have h : tSpc m c = transpose S1x16 [1, 0] (A6 m c) transposes_S16x1_S1x16_1_0 := rfl
  rw [h]
  pointwise []

/-- The block of a grid point is that batch's part of the table. -/
theorem outBlk_table (t : Fin cfg0.N) (b : Fin 8) (hb : (grid0.coords t 0).val = b.val) (r : Fin 40) (q : Fin 32768) :
    outBlk m c t (ix3 0 r q) = table (A0 m c) (A1 m c) (A2 m c) (A3 m c) (A4 m c) (A5 m c) (A6 m c) b q r := by
  rw [outBlk_at m c t b hb r (var q) (step q) q (by show q.val = 2048 * (q.val / 2048) + q.val % 2048; omega)]
  unfold table
  by_cases h0 : r = 0
  · rw [if_pos h0, if_pos h0, h0, add_assoc, tLoc_at, tInp_at, tSpc_at]
  · rw [if_neg h0, if_neg h0]
    by_cases ht : timed r
    · rw [if_pos ht, if_pos ht, tLoc_at, tDat_at, tTw_eq, tTb_eq]
    · have h37 : 37 ≤ r.val := by
        by_contra h
        exact ht ⟨Nat.one_le_iff_ne_zero.mpr (fun e => h0 (Fin.ext e)), by omega⟩
      rw [if_neg ht, if_neg ht, if_pos h37, tLoc_at, tCmx_at]

/-- Grid point `t` works on batch `t` and puts its block there. -/
theorem block_index : ∀ t : Fin cfg0.N, win0_0.index t = ![(grid0.coords t 0).val, 0, 0] :=
  (by decide +kernel : ∀ t : Fin grid0.N, _)

/-- The array behind the first result. -/
theorem array_eq : (dats m 0 c).arrAt 0 cfg0.N
    = fun i : S8x40x32768.Idx => table (A0 m c) (A1 m c) (A2 m c) (A3 m c) (A4 m c) (A5 m c) (A6 m c) (i 0) (i 2) (i 1) := by
  refine (dats m 0 c).arrAt_eq_of_covers 0 _ (by decide +kernel) fun t hf y => ?_
  blk_simp
  rw [after_0]
  have hb : (grid0.coords t 0).val < 8 := (grid0.coords t 0).isLt
  have e : (win0_0.blk t).view.emb y
      = (ix3 ⟨(grid0.coords t 0).val, hb⟩ ⟨(y 1).val, (y 1).isLt⟩ ⟨(y 2).val, (y 2).isLt⟩ : S8x40x32768.Idx) := by
    blk_ext [block_index t]
  have ey : y = (ix3 0 ⟨(y 1).val, (y 1).isLt⟩ ⟨(y 2).val, (y 2).isLt⟩ : S1x40x32768.Idx) := by
    blk_ext []
  rw [e, ey]
  exact outBlk_table m c t _ rfl _ _

/-- The second result: the variable number of every column. -/
theorem index_eq (b : Fin 8) (q : Fin 32768) : (dats m 0 c).arrAt 1 cfg0.N (ix2 b q : S8x32768.Idx) = BitVec.ofNat 32 (var q).val := by
  rw [(dats m 0 c).arrAt_eq_of_after_last 1 ⟨7, by decide⟩ (by decide +kernel) k0_pay5 fun j => by rw [after_1]; rfl]
  pointwise [k0_pay5]
  show BitVec.ofNat 32 q.val >>> 11#32 = BitVec.ofNat 32 (q.val / 2048)
  have hq := q.isLt
  apply BitVec.eq_of_toNat_eq
  rw [BitVec.ushiftRight_eq', BitVec.toNat_ushiftRight, Nat.shiftRight_eq_div_pow, BitVec.toNat_ofNat]
  show q.val % 4294967296 / 2048 = q.val / 2048 % 4294967296
  omega

/-- The first result is the reference's first result at the same arguments. -/
theorem first_result : transpose S8x32768x40 [0, 2, 1] ((dats m 0 c).arrAt 0 cfg0.N) transposes_S8x40x32768_S8x32768x40_0_2_1
    = Cert.ReferenceIdeal.Read.val_main_v39 (F := Ideal) (A0 m c) (A1 m c) (A2 m c) (A3 m c) (A4 m c) (A5 m c) (A6 m c) := by
  rw [array_eq]
  funext i
  idx_vars i
  rw [Cert.ReferenceIdeal.Table.table_at]
  pointwise []

/-- The second result is the reference's second result. -/
theorem second_result : (dats m 0 c).arrAt 1 cfg0.N = Cert.ReferenceIdeal.Read.val_main_v29 (F := Ideal) := by
  funext i
  idx_vars i
  exact (index_eq m c _ _).trans (Cert.ReferenceIdeal.Table.index_at _ _).symm

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import proofs.«01_k».proof.Proof.Machine.Final
public import proofs.«01_k».proof.Proof.Array
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel on machine words runs to its end from every start, leaves its arguments as they were and every counter at
zero. -/
theorem frame_Kernel : @Cert.quiescent_Kernel Cert.Kernel.Gen.facts := fun m g _ => Cert.Kernel.Hand.run_quiet m g

/-- The same for the kernel over the extended reals. -/
theorem frame_KernelIdeal : @Cert.quiescent_KernelIdeal Cert.KernelIdeal.Gen.facts := fun m g _ => Cert.KernelIdeal.Hand.run_quiet m g

/-- The same for the reference over the extended reals. -/
theorem frame_ReferenceIdeal : @Cert.quiescent_ReferenceIdeal Cert.ReferenceIdeal.Gen.facts := fun m g _ =>
  (θ_run _ _ _).mono (fun r h => ⟨fun c => (h c).2.2, sem_eq_zero_of_no_sems rfl r.2⟩) (Cert.ReferenceIdeal.Value.run m g)

/-- Over the extended reals the kernel and the reference leave the same two results, whatever the arguments hold. -/
theorem algebraic_KernelIdeal_ReferenceIdeal : @Cert.algebraic_KernelIdeal_ReferenceIdeal Cert.KernelIdeal.Gen.facts Cert.ReferenceIdeal.Gen.facts := by
  intro m g m' g' _ hagree
  refine ⟨_, _, (θ_run _ _ _).mono (fun r h c => h.1 c) (Cert.KernelIdeal.Hand.run_results m g),
    (θ_run _ _ _).mono (fun r h c => ⟨(h c).1.trans ?_, (h c).2.1.trans ?_, (h c).2.2⟩) (Cert.ReferenceIdeal.Value.run m' g')⟩
  · obtain ⟨e0, e1, e2, e3, e4, e5, e6⟩ := hagree c
    rw [Cert.ReferenceIdeal.Read.val_main_v39_eq, e0, e1, e2, e3, e4, e5, e6]
    exact (Cert.KernelIdeal.Value.first_result m c).symm
  · exact (Cert.KernelIdeal.Value.second_result m c).symm

/-- Everything claimed. -/
theorem claim : Cert.Claim := ⟨Cert.Kernel.Gen.facts, Cert.KernelIdeal.Gen.facts, Cert.ReferenceIdeal.Gen.facts,
  frame_Kernel, frame_KernelIdeal, frame_ReferenceIdeal, trivial, algebraic_KernelIdeal_ReferenceIdeal⟩

end Cert.Proof

end
